-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S2x3x4 : Shape := ⟨3, ![2, 3, 4]⟩
abbrev S_ : Shape := ⟨0, ![]⟩
abbrev S1x1x1 : Shape := ⟨3, ![1, 1, 1]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .local _ .vmem, ⟨0, _⟩ => ⟨S2048x512, .f32⟩
  | .local _ .vmem, ⟨1, _⟩ => ⟨S8192x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.subi v2 c0_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c2048_i32 : BitVec 32 := 2048#32
  let v41 : BitVec 32 := Scalar.muli v40 c2048_i32
  let v42 : BitVec 32 := Scalar.addi v41 c0_i32_26
  let c0_i32_35 : BitVec 32 := 0#32
  ![v42.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_33 : BitVec 32 := 1#32
  let v43 : BitVec 32 := Scalar.muli v24 c1_i32_33
  let v44 : BitVec 32 := Scalar.addi c0_i32_34 v43
  v44.toNat
def k0_off2 (d0 : Dev nD) (c0_i32_38 : BitVec 32) (c1024_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v51 : BitVec 32 := Scalar.addi v2 c0_i32_38
  let c4_i32_39 : BitVec 32 := 4#32
  let c0_i32_40 : BitVec 32 := 0#32
  let v52 : BitVec 1 := Scalar.cmpi .eq c4_i32_39 c0_i32_40
  let c1_i32_41 : BitVec 32 := 1#32
  let v53 : BitVec 32 := Scalar.select v52 c1_i32_41 c4_i32_39
  let v54 : BitVec 32 := Scalar.remsi v51 v53
  let c0_i32_43 : BitVec 32 := 0#32
  let v56 : BitVec 1 := Scalar.cmpi .slt v54 c0_i32_43
  let c0_i32_44 : BitVec 32 := 0#32
  let v57 : BitVec 1 := Scalar.cmpi .slt v53 c0_i32_44
  let v58 : BitVec 1 := Scalar.xori v56 v57
  let c0_i32_42 : BitVec 32 := 0#32
  let v55 : BitVec 1 := Scalar.cmpi .ne v54 c0_i32_42
  let v59 : BitVec 1 := Scalar.andi v58 v55
  let v60 : BitVec 32 := Scalar.addi v54 v53
  let v61 : BitVec 32 := Scalar.select v59 v60 v54
  let c2048_i32_45 : BitVec 32 := 2048#32
  let v62 : BitVec 32 := Scalar.muli v61 c2048_i32_45
  let v63 : BitVec 32 := Scalar.addi v62 c1024_i32
  let c0_i32_54 : BitVec 32 := 0#32
  ![v63.toNat, 0]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_52 : BitVec 32 := 1#32
  let v64 : BitVec 32 := Scalar.muli v13 c1_i32_52
  let v65 : BitVec 32 := Scalar.addi c0_i32_53 v64
  v65.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_71 : BitVec 32 := 1#32
  let v85 : BitVec 32 := Scalar.muli v24 c1_i32_71
  let v86 : BitVec 32 := Scalar.addi c0_i32_72 v85
  v86.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_90 : BitVec 32 := 1#32
  let v106 : BitVec 32 := Scalar.muli v13 c1_i32_90
  let v107 : BitVec 32 := Scalar.addi c0_i32_91 v106
  v107.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_109 : BitVec 32 := 1#32
  let v127 : BitVec 32 := Scalar.muli v24 c1_i32_109
  let v128 : BitVec 32 := Scalar.addi c0_i32_110 v127
  v128.toNat
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v148 : BitVec 32 := Scalar.muli v13 c1_i32_128
  let v149 : BitVec 32 := Scalar.addi c0_i32_129 v148
  v149.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_146 : BitVec 32 := 1#32
  let v169 : BitVec 32 := Scalar.muli v24 c1_i32_146
  let v170 : BitVec 32 := Scalar.addi c0_i32_147 v169
  v170.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_165 : BitVec 32 := 1#32
  let v190 : BitVec 32 := Scalar.muli v13 c1_i32_165
  let v191 : BitVec 32 := Scalar.addi c0_i32_166 v190
  v191.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_170 : BitVec 32 := 2048#32
  let v198 : BitVec 32 := Scalar.muli v2 c2048_i32_170
  let c0_i32_171 : BitVec 32 := 0#32
  ![v198.toNat, 0]
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_200 : BitVec 32 := 1#32
  let v221 : BitVec 32 := Scalar.muli v24 c1_i32_200
  let v222 : BitVec 32 := Scalar.addi c0_i32_201 v221
  v222.toNat
def k0_dev12 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_232 : BitVec 32 := 1#32
  let v250 : BitVec 32 := Scalar.muli v13 c1_i32_232
  let v251 : BitVec 32 := Scalar.addi c0_i32_233 v250
  v251.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_264 : BitVec 32 := 1#32
  let v279 : BitVec 32 := Scalar.muli v24 c1_i32_264
  let v280 : BitVec 32 := Scalar.addi c0_i32_265 v279
  v280.toNat
def k0_dev14 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v308 : BitVec 32 := Scalar.muli v13 c1_i32_296
  let v309 : BitVec 32 := Scalar.addi c0_i32_297 v308
  v309.toNat
def k0_dev15 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_328 : BitVec 32 := 1#32
  let v337 : BitVec 32 := Scalar.muli v24 c1_i32_328
  let v338 : BitVec 32 := Scalar.addi c0_i32_329 v337
  v338.toNat
def k0_dev16 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_360 : BitVec 32 := 1#32
  let v366 : BitVec 32 := Scalar.muli v13 c1_i32_360
  let v367 : BitVec 32 := Scalar.addi c0_i32_361 v366
  v367.toNat
def k0_dev17 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_392 : BitVec 32 := 1#32
  let v395 : BitVec 32 := Scalar.muli v24 c1_i32_392
  let v396 : BitVec 32 := Scalar.addi c0_i32_393 v395
  v396.toNat
def k0_dev18 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_424 : BitVec 32 := 1#32
  let v424 : BitVec 32 := Scalar.muli v13 c1_i32_424
  let v425 : BitVec 32 := Scalar.addi c0_i32_425 v424
  v425.toNat
def k0_dev19 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_455 : BitVec 32 := 1#32
  let v453 : BitVec 32 := Scalar.muli v24 c1_i32_455
  let v454 : BitVec 32 := Scalar.addi c0_i32_456 v453
  v454.toNat
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_486 : BitVec 32 := 1#32
  let v482 : BitVec 32 := Scalar.muli v13 c1_i32_486
  let v483 : BitVec 32 := Scalar.addi c0_i32_487 v482
  v483.toNat
def k0_dev21 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_517 : BitVec 32 := 1#32
  let v511 : BitVec 32 := Scalar.muli v24 c1_i32_517
  let v512 : BitVec 32 := Scalar.addi c0_i32_518 v511
  v512.toNat
def k0_dev22 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_548 : BitVec 32 := 1#32
  let v540 : BitVec 32 := Scalar.muli v13 c1_i32_548
  let v541 : BitVec 32 := Scalar.addi c0_i32_549 v540
  v541.toNat
def k0_dev23 (d0 : Dev nD) : Nat :=
  let c0_i32_580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_579 : BitVec 32 := 1#32
  let v569 : BitVec 32 := Scalar.muli v24 c1_i32_579
  let v570 : BitVec 32 := Scalar.addi c0_i32_580 v569
  v570.toNat
def k0_dev24 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_610 : BitVec 32 := 1#32
  let v598 : BitVec 32 := Scalar.muli v13 c1_i32_610
  let v599 : BitVec 32 := Scalar.addi c0_i32_611 v598
  v599.toNat
def k0_dev25 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_641 : BitVec 32 := 1#32
  let v627 : BitVec 32 := Scalar.muli v24 c1_i32_641
  let v628 : BitVec 32 := Scalar.addi c0_i32_642 v627
  v628.toNat
def k0_dev26 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_672 : BitVec 32 := 1#32
  let v656 : BitVec 32 := Scalar.muli v13 c1_i32_672
  let v657 : BitVec 32 := Scalar.addi c0_i32_673 v656
  v657.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealBands.lean ====
/-
# The all-gather ring: neighbours, transfers and the row bands they fill

Four devices stand in a ring. Device `c` holds rows `2048 c … 2048 c + 2047` of an `8192 × 512` array and ends with
all of it. The result buffer is read as 32 BANDS of 256 rows; band `t` holds part of the block of device `t / 8`.

Each device starts 24 transfers, numbered `0 … 23` in the order its program starts them. Transfer `i` belongs to
hop `i / 8`, to sub-slab `i % 8 / 2` and to direction `i % 2`: an even transfer goes to the next device of the ring,
an odd one to the previous device. Hop 0 sends the device's own rows; hop `h > 0` passes on what transfer `i - 8`
of the neighbour behind brought in. `band r i` is the band of device `r`'s result buffer that the transfer numbered `i`
arriving at `r` fills, and the same number names the band on the sending side, since every device lays the result out
alike.

This module fixes those numbers, the memrefs they name, the element sets of those memrefs and the array `gath` that
every result buffer ends at, and shows that each transfer's write leaves `gath` on the band it fills.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Layout
public import Idealize.ShloMosaic.Lib.Tactic

@[expose] public section

noncomputable section

namespace Cert.KernelIdeal.Gather

open Cert.KernelIdeal Cert.KernelIdeal.Gen

open Idealize.ShloMosaic
open Idealize.ShloMosaic.TcCoe

variable {F : FTy → Type} [FloatOps F]

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- One step round the ring, as a bijection of the devices. -/
def stepEquiv : Dev nD ≃ Dev nD := ⟨nxt, prv, prv_nxt, nxt_prv⟩

/-! ## The transfers -/

/-- Where device `c`'s transfer `i` goes. -/
def dst (c : Dev nD) (i : ℕ) : Dev nD := if i % 2 = 0 then nxt c else prv c

/-- Going where transfer `i` goes, as a bijection of the devices. -/
def dstEquiv (i : ℕ) : Dev nD ≃ Dev nD := if i % 2 = 0 then stepEquiv else stepEquiv.symm

theorem dstEquiv_apply (i : ℕ) (c : Dev nD) : dstEquiv i c = dst c i := by
  unfold dstEquiv dst; split <;> rfl

/-- The band, among the eight of a device's block, that transfer `i` carries a copy of. -/
def lane (i : ℕ) : ℕ := i % 2 * 4 + i % 8 / 2

theorem lane_lt (i : ℕ) : lane i < 8 := by unfold lane; omega

/-- The device whose rows transfer `i` brings to device `r`. -/
def origin (r : Dev nD) (i : ℕ) : ℕ := if i % 2 = 0 then (r.val + 3 - i / 8 % 3) % 4 else (r.val + 1 + i / 8 % 3) % 4

theorem origin_lt (r : Dev nD) (i : ℕ) : origin r i < 4 := by unfold origin; split <;> exact Nat.mod_lt _ (by decide)

set_option backward.proofsInPublic true in
/-- The band of device `r`'s result buffer that the transfer `i` arriving there fills. -/
def band (r : Dev nD) (i : ℕ) : Fin 32 := ⟨8 * origin r i + lane i, by have := origin_lt r i; have := lane_lt i; omega⟩

/-- A hop-0 transfer from `c` fills a band of `c`'s own block. -/
theorem band_dst_own : ∀ (c : Dev nD) (i : ℕ), i < 8 → (band (dst c i) i).val = 8 * c.val + lane i := by decide
/-- A later transfer fills, at its destination, the band that the transfer eight before it filled at its source. -/
theorem band_dst_fwd : ∀ (c : Dev nD) (i : ℕ), i < 24 → 8 ≤ i → band (dst c i) i = band c (i - 8) := by decide +kernel
/-- No band a transfer fills lies in the receiving device's own block; -/
theorem band_foreign : ∀ (c : Dev nD) (i : ℕ), i < 24 → (band c i).val / 8 ≠ c.val := by decide +kernel
/-- different transfers fill different bands; -/
theorem band_inj : ∀ (c : Dev nD) (i : ℕ), i < 24 → ∀ j, j < 24 → band c i = band c j → i = j := by decide +kernel
/-- and every band outside the own block is filled. -/
theorem band_surj : ∀ (c : Dev nD) (t : Fin 32), t.val / 8 ≠ c.val → ∃ i : Fin 24, band c i.val = t := by decide +kernel

/-- The hop-0 transfers carry different bands of the block, -/
theorem lane_inj : ∀ i, i < 8 → ∀ j, j < 8 → lane i = lane j → i = j := by decide +kernel
/-- and all eight of them. -/
theorem lane_surj : ∀ j : Fin 8, ∃ i : Fin 8, lane i.val = j.val := by decide

/-! ## The memrefs -/

/-- The staged argument block, `2048 × 512`. -/
abbrev xM : Memref sig .tc .vmem S2048x512 .f32 := Memref.whole cc0_stg0_0
/-- The result buffer, `8192 × 512`. -/
abbrev oM : Memref sig .tc .vmem S8192x512 .f32 := Memref.whole cc0_stg1_0

/-- A band of 256 rows of the result buffer lies inside it. -/
theorem band_inb (t : Fin 32) : ∀ a, (![256 * t.val, 0] : Fin 2 → ℕ) a + S256x512.size a ≤ S8192x512.size a := by
  revert t; decide +kernel
/-- A band of 256 rows of the argument block lies inside it. -/
theorem slab_inb (j : Fin 8) : ∀ a, (![256 * j.val, 0] : Fin 2 → ℕ) a + S256x512.size a ≤ S2048x512.size a := by
  revert j; decide +kernel
/-- A device's block of the result buffer lies inside it. -/
theorem own_inb (c : Dev nD) : ∀ a, (![2048 * c.val, 0] : Fin 2 → ℕ) a + S2048x512.size a ≤ S8192x512.size a := by
  revert c; decide +kernel

/-- Band `t` of the result buffer. -/
abbrev bandM (t : Fin 32) : Memref sig .tc .vmem S256x512 .f32 :=
  oM.slice (Rect.unit (s := S8192x512) ![256 * t.val, 0] S256x512.size (band_inb t)) (fun _ => rfl)
/-- Band `j` of the argument block. -/
abbrev slabM (j : Fin 8) : Memref sig .tc .vmem S256x512 .f32 :=
  xM.slice (Rect.unit (s := S2048x512) ![256 * j.val, 0] S256x512.size (slab_inb j)) (fun _ => rfl)
/-- Device `c`'s own block of the result buffer. -/
abbrev ownM (c : Dev nD) : Memref sig .tc .vmem S2048x512 .f32 :=
  oM.slice (Rect.unit (s := S8192x512) ![2048 * c.val, 0] S2048x512.size (own_inb c)) (fun _ => rfl)

set_option backward.proofsInPublic true in
/-- The band of the argument block that a hop-0 transfer carries. -/
def slabIx (i : ℕ) : Fin 8 := ⟨lane i, lane_lt i⟩

/-! ## Their element sets -/

/-- An element of the result buffer lies in band `t` exactly when its row does. -/
theorem mem_band (t : Fin 32) (y : S8192x512.Idx) : y ∈ (bandM t).view.set ↔ (y 0).val / 256 = t.val := by
  refine (show y ∈ ((View.whole cc0_stg1_0).slice (Rect.unit (s := S8192x512) ![256 * t.val, 0] S256x512.size (band_inb t))).set ↔ _ from ?_)
  rw [View.set_slice_whole, Rect.mem_set_unit]
  have h1 : (y 1).val < 512 := (y 1).isLt
  constructor
  · intro h
    have h0 := h 0
    change 256 * t.val ≤ (y 0).val ∧ (y 0).val < 256 * t.val + 256 at h0
    omega
  · intro h a
    match a with
    | ⟨0, _⟩ => show 256 * t.val ≤ (y 0).val ∧ (y 0).val < 256 * t.val + 256; omega
    | ⟨1, _⟩ => exact ⟨Nat.zero_le _, show (y 1).val < 0 + 512 by omega⟩

/-- An element of the argument block lies in band `j` exactly when its row does. -/
theorem mem_slab (j : Fin 8) (y : S2048x512.Idx) : y ∈ (slabM j).view.set ↔ (y 0).val / 256 = j.val := by
  refine (show y ∈ ((View.whole cc0_stg0_0).slice (Rect.unit (s := S2048x512) ![256 * j.val, 0] S256x512.size (slab_inb j))).set ↔ _ from ?_)
  rw [View.set_slice_whole, Rect.mem_set_unit]
  have h1 : (y 1).val < 512 := (y 1).isLt
  constructor
  · intro h
    have h0 := h 0
    change 256 * j.val ≤ (y 0).val ∧ (y 0).val < 256 * j.val + 256 at h0
    omega
  · intro h a
    match a with
    | ⟨0, _⟩ => show 256 * j.val ≤ (y 0).val ∧ (y 0).val < 256 * j.val + 256; omega
    | ⟨1, _⟩ => exact ⟨Nat.zero_le _, show (y 1).val < 0 + 512 by omega⟩

/-- An element of the result buffer lies in device `c`'s block exactly when its row does. -/
theorem mem_own (c : Dev nD) (y : S8192x512.Idx) : y ∈ (ownM c).view.set ↔ (y 0).val / 2048 = c.val := by
  refine (show y ∈ ((View.whole cc0_stg1_0).slice (Rect.unit (s := S8192x512) ![2048 * c.val, 0] S2048x512.size (own_inb c))).set ↔ _ from ?_)
  rw [View.set_slice_whole, Rect.mem_set_unit]
  have h1 : (y 1).val < 512 := (y 1).isLt
  constructor
  · intro h
    have h0 := h 0
    change 2048 * c.val ≤ (y 0).val ∧ (y 0).val < 2048 * c.val + 2048 at h0
    omega
  · intro h a
    match a with
    | ⟨0, _⟩ => show 2048 * c.val ≤ (y 0).val ∧ (y 0).val < 2048 * c.val + 2048; omega
    | ⟨1, _⟩ => exact ⟨Nat.zero_le _, show (y 1).val < 0 + 512 by omega⟩

/-- The bands the 24 transfers fill on device `c` are apart, -/
theorem band_disjoint (c : Dev nD) : ∀ i ∈ Finset.Ico 0 24, ∀ j ∈ Finset.Ico 0 24, i ≠ j →
    Disjoint (bandM (band c i)).view.set (bandM (band c j)).view.set := by
  intro i hi j hj hij
  rw [Finset.disjoint_left]
  intro y hy hy'
  have h1 := (mem_band _ y).mp hy
  have h2 := (mem_band _ y).mp hy'
  exact hij (band_inj c i (Finset.mem_Ico.mp hi).2 j (Finset.mem_Ico.mp hj).2 (Fin.ext (h1.symm.trans h2)))

/-- and make up, together, everything outside the device's own block. -/
theorem band_union (c : Dev nD) :
    (Finset.Ico 0 24).biUnion (fun i => ((bandM (band c i)).view.set : Finset S8192x512.Idx)) = Finset.univ \ (ownM c).view.set := by
  ext y
  rw [Finset.mem_biUnion, Finset.mem_sdiff]
  have hr : (y 0).val < 8192 := (y 0).isLt
  constructor
  · rintro ⟨i, hi, hy⟩
    refine ⟨Finset.mem_univ _, fun ho => ?_⟩
    have h1 := (mem_band _ y).mp hy
    have h2 := (mem_own c y).mp ho
    have h3 := band_foreign c i (Finset.mem_Ico.mp hi).2
    omega
  · rintro ⟨-, ho⟩
    have h2 : ¬ (y 0).val / 2048 = c.val := fun h => ho ((mem_own c y).mpr h)
    obtain ⟨i, hi⟩ := band_surj c ⟨(y 0).val / 256, by omega⟩ (by show (y 0).val / 256 / 8 ≠ c.val; omega)
    exact ⟨i.val, Finset.mem_Ico.mpr ⟨Nat.zero_le _, i.isLt⟩, (mem_band _ y).mpr (by rw [hi])⟩

/-- The bands of the argument block that the hop-0 transfers read are apart, -/
theorem slab_disjoint : ∀ i ∈ Finset.Ico 0 8, ∀ j ∈ Finset.Ico 0 8, i ≠ j →
    Disjoint (α := Finset S2048x512.Idx) (slabM (slabIx i)).view.set (slabM (slabIx j)).view.set := by
  intro i hi j hj hij
  rw [Finset.disjoint_left]
  intro y hy hy'
  have h1 := (mem_slab _ y).mp hy
  have h2 := (mem_slab _ y).mp hy'
  exact hij (lane_inj i (Finset.mem_Ico.mp hi).2 j (Finset.mem_Ico.mp hj).2 (h1.symm.trans h2))

/-- and make up the whole of it. -/
theorem slab_union : Finset.biUnion (β := S2048x512.Idx) (Finset.Ico 0 8) (fun i => (slabM (slabIx i)).view.set) = Finset.univ := by
  ext y
  rw [Finset.mem_biUnion]
  have hr : (y 0).val < 2048 := (y 0).isLt
  refine ⟨fun _ => Finset.mem_univ _, fun _ => ?_⟩
  obtain ⟨i, hi⟩ := lane_surj ⟨(y 0).val / 256, by omega⟩
  exact ⟨i.val, Finset.mem_Ico.mpr ⟨Nat.zero_le _, i.isLt⟩, (mem_slab _ y).mpr hi.symm⟩

/-! ## The gathered array -/

section Gathered

variable (X : Dev nD → S2048x512.Idx → Elt F .f32)

set_option backward.proofsInPublic true in
/-- The array whose block `c` is `X c`: row `r` is row `r % 2048` of block `r / 2048`. -/
def gathOf (y : S8192x512.Idx) : Elt F .f32 :=
  X ⟨(y 0).val / 2048, by have : (y 0).val < 8192 := (y 0).isLt; show (y 0).val / 2048 < 4; omega⟩
    (Shape.pair (d := ![2048, 512]) ⟨(y 0).val % 2048, Nat.mod_lt _ (by decide)⟩ ⟨(y 1).val, (y 1).isLt⟩)

omit [FloatOps F] in
/-- `gathOf` at an index whose row is row `r` of block `c`. -/
theorem gathOf_eq (c : Dev nD) (z : S2048x512.Idx) (y : S8192x512.Idx) (h0 : (y 0).val = 2048 * c.val + (z 0).val)
    (h1 : (y 1).val = (z 1).val) : gathOf X y = X c z := by
  have hz : (z 0).val < 2048 := (z 0).isLt
  have hc : (⟨(y 0).val / 2048, by have : (y 0).val < 8192 := (y 0).isLt; show (y 0).val / 2048 < 4; omega⟩ : Dev nD) = c :=
    Fin.ext (by show (y 0).val / 2048 = c.val; omega)
  have hw : Shape.pair (d := ![2048, 512]) ⟨(y 0).val % 2048, Nat.mod_lt _ (by decide)⟩ ⟨(y 1).val, (y 1).isLt⟩ = z := by
    funext a
    match a with
    | ⟨0, _⟩ => exact Fin.ext (show (y 0).val % 2048 = (z 0).val by omega)
    | ⟨1, _⟩ => exact Fin.ext (show (y 1).val = (z 1).val by omega)
  unfold gathOf
  rw [hw, hc]

omit [FloatOps F] in
/-- A hop-0 transfer from `c` writes the gathered array on the band it fills. -/
theorem write_own_band (c : Dev nD) (j : Fin 8) (t : Fin 32) (ht : t.val = 8 * c.val + j.val) (fd : S8192x512.Idx → Elt F .f32) :
    ∀ y ∈ (bandM t).view.set, (bandM t).view.write (Elt F) fd ((slabM j).view.read (Elt F) (X c)) Finset.univ y = gathOf X y := by
  intro y hy
  obtain ⟨x, -, rfl⟩ := Finset.mem_map.mp hy
  rw [View.write_emb_of_mem _ _ (Finset.mem_univ x)]
  refine (gathOf_eq X c ((slabM j).view.emb x) ((bandM t).view.emb x) ?_ ?_).symm
  · show 256 * t.val + 1 * (x 0).val = 2048 * c.val + (256 * j.val + 1 * (x 0).val)
    omega
  · rfl

omit [FloatOps F] in
/-- A later transfer, passing on a band of the gathered array, writes the gathered array on that band. -/
theorem write_fwd_band (t : Fin 32) (g fd : S8192x512.Idx → Elt F .f32) :
    ∀ y ∈ (bandM t).view.set, (bandM t).view.write (Elt F) fd ((bandM t).view.read (Elt F) g) Finset.univ y = g y := by
  intro y hy
  obtain ⟨x, -, rfl⟩ := Finset.mem_map.mp hy
  rw [View.write_emb_of_mem _ _ (Finset.mem_univ x)]
  rfl

omit [FloatOps F] in
/-- The copy of a device's argument block into the result buffer writes the gathered array on the device's own block. -/
theorem write_own_block (c : Dev nD) (fd : S8192x512.Idx → Elt F .f32) :
    ∀ y ∈ (ownM c).view.set, (ownM c).view.write (Elt F) fd (xM.view.read (Elt F) (X c)) Finset.univ y = gathOf X y := by
  intro y hy
  obtain ⟨x, -, rfl⟩ := Finset.mem_map.mp hy
  rw [View.write_emb_of_mem _ _ (Finset.mem_univ x)]
  refine (gathOf_eq X c x ((ownM c).view.emb x) ?_ ?_).symm
  · show 2048 * c.val + 1 * (x 0).val = 2048 * c.val + (x 0).val
    omega
  · show 0 + 1 * (x 1).val = (x 1).val
    omega

end Gathered

/-! ## The program's device numbers and offsets -/

/-- The offset the program computes for a band of a forward transfer of hop `h`, sub-slab `s`: the band of the block
    `h` devices before `d`. -/
theorem off1_eq (d : Dev nD) (h : Fin 3) (s : Fin 4) :
    k0_off1 d (BitVec.ofNat 32 h.val) (BitVec.ofNat 32 (256 * s.val)) = ![256 * (8 * ((d.val + 4 - h.val) % 4) + s.val), 0] := by
  revert d h s; decide +kernel
/-- The same for a backward transfer: the band of the block `h` devices after `d`. -/
theorem off2_eq (d : Dev nD) (h : Fin 3) (s : Fin 4) :
    k0_off2 d (BitVec.ofNat 32 h.val) (BitVec.ofNat 32 (1024 + 256 * s.val)) = ![256 * (8 * ((d.val + h.val) % 4) + (4 + s.val)), 0] := by
  revert d h s; decide +kernel

/-- A forward transfer's band, at its destination, by hop and sub-slab. -/
theorem band_dst_even : ∀ (c : Dev nD) (h : Fin 3) (s : Fin 4),
    (band (dst c (8 * h.val + 2 * s.val)) (8 * h.val + 2 * s.val)).val = 8 * ((c.val + 4 - h.val) % 4) + s.val := by decide +kernel
/-- A backward transfer's band, at its destination, by hop and sub-slab. -/
theorem band_dst_odd : ∀ (c : Dev nD) (h : Fin 3) (s : Fin 4),
    (band (dst c (8 * h.val + 2 * s.val + 1)) (8 * h.val + 2 * s.val + 1)).val = 8 * ((c.val + h.val) % 4) + (4 + s.val) := by decide +kernel

/-- The offset of a forward transfer's band, as the program computes it. -/
theorem off_even (c : Dev nD) (h : Fin 3) (s : Fin 4) :
    k0_off1 c (BitVec.ofNat 32 h.val) (BitVec.ofNat 32 (256 * s.val))
      = ![256 * (band (dst c (8 * h.val + 2 * s.val)) (8 * h.val + 2 * s.val)).val, 0] := by rw [off1_eq, band_dst_even]
/-- The offset of a backward transfer's band, as the program computes it. -/
theorem off_odd (c : Dev nD) (h : Fin 3) (s : Fin 4) :
    k0_off2 c (BitVec.ofNat 32 h.val) (BitVec.ofNat 32 (1024 + 256 * s.val))
      = ![256 * (band (dst c (8 * h.val + 2 * s.val + 1)) (8 * h.val + 2 * s.val + 1)).val, 0] := by rw [off2_eq, band_dst_odd]

end Cert.KernelIdeal.Gather

end
-- ==== Proof.KernelIdealCells.lean ====
/-
# The semaphore cells of the ring and what each of them stands for

Every device has one barrier semaphore and 49 DMA semaphores of its own: a send and a receive semaphore per transfer
and one for the copy of its own block into the result. Each is used for one round. This module states the round of each
cell as a `Rounds.Schedule`: who pays it, how much, and what the payment hands over.

* The barrier cell of `c` is paid one unit by each neighbour. The next device hands over the bands of ITS result buffer
  that `c`'s forward transfers fill; the previous device those that `c`'s backward transfers fill. After both, `c` may
  write to every band it is to fill.
* The receive cell of transfer `i` on `r` hands over the band filled, holding the gathered array.
* The send cell of transfer `i` on `c` gives back what the transfer read: a band of the argument block, or a band of
  the result buffer that an earlier transfer filled.
* The copy cell gives back the argument block and hands over the device's own block of the result.

A device waiting for a cell of a level must owe only cells of greater levels. The barrier cells stand at 1, the receive
cell of transfer `i` at `2 + i`, every other cell at 0. A device waits for transfer `i` having started the first `i + 8`
of its own, so the credits it still owes are for later transfers.
-/
module

public import proofs.«01_k».proof.Proof.KernelIdealBands
public import Idealize.ShloMosaic.Lib.Rounds.Family

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline library's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The argument block of device `c`, as staged for the kernel. -/
def xstg (c : Dev nD) : S2048x512.Idx → Elt F .f32 :=
  (win0_0.blk (0 : Fin 1)).view.read (Elt F) ((s₀ m ρ).mem ((c : Thread nD τ).loc main_arg0))

/-- The array gathered from the four devices' blocks. -/
def gath : S8192x512.Idx → Elt F .f32 := gathOf (xstg m ρ)

/-! ## The cells -/

/-- Transfer `i`'s place in a `2 × 3 × 4` array of semaphores, indexed by direction, hop and sub-slab. -/
def place (i : ℕ) : ℕ := i % 2 * 12 + i / 8 % 3 * 4 + i % 8 / 2
/-- The transfer at a place. -/
def atPlace (n : ℕ) : ℕ := n % 12 / 4 * 8 + n % 4 * 2 + n / 12

theorem place_lt (i : ℕ) : place i < 24 := by unfold place; omega
theorem atPlace_place : ∀ i, i < 24 → atPlace (place i) = i := by decide

/-- The barrier semaphore the four devices share by number. -/
abbrev barS : Sem sig := (SemArray.scalar (sig.barrier 0 rfl) : Sems sig S_).sem
set_option backward.proofsInPublic true in
/-- The semaphore transfer `i` pays at its source; -/
def sendS (i : ℕ) : DmaSem sig := ⟨place i + 2, show place i + 2 < 51 by have := place_lt i; omega⟩
set_option backward.proofsInPublic true in
/-- the one it pays at its destination; -/
def recvS (i : ℕ) : DmaSem sig := ⟨place i + 26, show place i + 26 < 51 by have := place_lt i; omega⟩
set_option backward.proofsInPublic true in
/-- the one of the copy of the own block. -/
def copyS : DmaSem sig := ⟨50, by decide⟩

abbrev barCell (c : Dev nD) : GSem nD τ sig := ((c : Thread nD τ), .reg barS)
abbrev sendCell (c : Dev nD) (i : ℕ) : GSem nD τ sig := ((c : Thread nD τ), .dma (sendS i))
abbrev recvCell (c : Dev nD) (i : ℕ) : GSem nD τ sig := ((c : Thread nD τ), .dma (recvS i))
abbrev copyCell (c : Dev nD) : GSem nD τ sig := ((c : Thread nD τ), .dma copyS)

theorem recvS_inj : ∀ i, i < 24 → ∀ j, j < 24 → recvS i = recvS j → i = j := by decide +kernel

/-- What a band's transfer credits. -/
def N : ℕ := (bandM 0).view.dmaCredit
/-- What the copy of a block credits. -/
def NC : ℕ := (ownM 0).view.dmaCredit

theorem N_pos : 0 < N := View.dmaCredit_pos _ (by decide)
theorem NC_pos : 0 < NC := View.dmaCredit_pos _ (by decide)

/-! ## What is handed over -/

/-- Band `t` of device `c`'s result buffer, holding `f`. -/
def bandPts (c : Dev nD) (t : Fin 32) (f : S8192x512.Idx → Elt F .f32) : sProp 𝕄 :=
  (bandM t).view.loc (c : Thread nD τ) ↦[(bandM t).view.set]{fullShare} f
/-- Device `c`'s own block of its result buffer, holding `f`. -/
def ownPts (c : Dev nD) (f : S8192x512.Idx → Elt F .f32) : sProp 𝕄 :=
  (ownM c).view.loc (c : Thread nD τ) ↦[(ownM c).view.set]{fullShare} f
/-- Half of the right to band `j` of device `c`'s argument block: what a transfer reads it by. -/
def slabPts (c : Dev nD) (j : Fin 8) : sProp 𝕄 :=
  (slabM j).view.loc (c : Thread nD τ) ↦[(slabM j).view.set]{fullShare.left} xstg m ρ c
/-- The other half of the right to the whole argument block: what the copy reads it by. -/
def xPts (c : Dev nD) : sProp 𝕄 :=
  xM.view.loc (c : Thread nD τ) ↦[xM.view.set]{fullShare.right} xstg m ρ c

omit [FloatOps F] in
instance bandPts_storable (c : Dev nD) (t : Fin 32) (f) : BI.Storable (upEmb : UEmb _ 𝕄) (bandPts (F := F) c t f) := by unfold bandPts; infer_instance
omit [FloatOps F] in
instance ownPts_storable (c : Dev nD) (f) : BI.Storable (upEmb : UEmb _ 𝕄) (ownPts (F := F) c f) := by unfold ownPts; infer_instance
omit [FloatOps F] in
instance slabPts_storable (c : Dev nD) (j : Fin 8) : BI.Storable (upEmb : UEmb _ 𝕄) (slabPts (F := F) m ρ c j) := by unfold slabPts; infer_instance
omit [FloatOps F] in
instance xPts_storable (c : Dev nD) : BI.Storable (upEmb : UEmb _ 𝕄) (xPts (F := F) m ρ c) := by unfold xPts; infer_instance

/-- The band device `c`'s transfer `i` is to fill, at some contents. -/
def landing (c : Dev nD) (i : ℕ) : sProp 𝕄 := iprop(∃ f, bandPts (dst c i) (band (dst c i) i) f)

/-- The transfers going the way `d` names: the forward ones for `true`, the backward ones for `false`. -/
def going (d : Bool) : Finset ℕ := (Finset.Ico 0 24).filter (fun i => (i % 2 = 0) ↔ d = true)

/-- What the next device's unit (`true`) and the previous device's (`false`) hand to `c`. -/
def barPay (c : Dev nD) (d : Bool) : sProp 𝕄 := bigSep (going d) (fun i => landing (F := F) c i)
/-- What transfer `i` gives back to its source `c`. -/
def sendPay (c : Dev nD) (i : ℕ) : sProp 𝕄 :=
  if i < 8 then slabPts m ρ c (slabIx i) else bandPts c (band c (i - 8)) (gath m ρ)
/-- What transfer `i` hands to its destination `c`. -/
def recvPay (c : Dev nD) (i : ℕ) : sProp 𝕄 := bandPts c (band c i) (gath m ρ)
/-- What the copy of its own block hands to `c`. -/
def copyPay (c : Dev nD) : sProp 𝕄 := iprop(ownPts c (gath m ρ) ∗ xPts m ρ c)

omit [FloatOps F] in
instance landing_storable (c : Dev nD) (i : ℕ) : BI.Storable (upEmb : UEmb _ 𝕄) (landing (F := F) c i) := by unfold landing; infer_instance
omit [FloatOps F] in
instance barPay_storable (c : Dev nD) (d : Bool) : BI.Storable (upEmb : UEmb _ 𝕄) (barPay (F := F) c d) := by unfold barPay; infer_instance
omit [FloatOps F] in
instance sendPay_storable (c : Dev nD) (i : ℕ) : BI.Storable (upEmb : UEmb _ 𝕄) (sendPay (F := F) m ρ c i) := by unfold sendPay; split <;> infer_instance
omit [FloatOps F] in
instance recvPay_storable (c : Dev nD) (i : ℕ) : BI.Storable (upEmb : UEmb _ 𝕄) (recvPay (F := F) m ρ c i) := by unfold recvPay; infer_instance
omit [FloatOps F] in
instance copyPay_storable (c : Dev nD) : BI.Storable (upEmb : UEmb _ 𝕄) (copyPay (F := F) m ρ c) := by unfold copyPay; infer_instance

/-! ## The schedule -/

/-- One round. A barrier cell has two duties of one unit each; each of the 49 DMA cells has one duty, of the credit of
    what is transferred. -/
def rounds : Rounds.Schedule (GSem nD τ sig) Bool 𝕄 where
  duties g r := if r = 0 ∧ g.1.2 = .tc then (match g.2 with | .reg _ => Finset.univ | .dma q => if 2 ≤ q.val then {false} else ∅) else ∅
  unitless _ := False
  amount g _ _ := match g.2 with | .reg _ => 1 | .dma q => if q.val < 50 then N else NC
  payload g _ d := match g.2 with
    | .reg _ => barPay g.1.1 d
    | .dma q => if q.val < 26 then sendPay m ρ g.1.1 (atPlace (q.val - 2)) else if q.val < 50 then recvPay m ρ g.1.1 (atPlace (q.val - 26)) else copyPay m ρ g.1.1
  amount_pos g _ _ _ := by
    rcases g with ⟨t, _ | q⟩
    · exact Nat.one_pos
    · show 0 < if q.val < 50 then N else NC
      split
      · exact N_pos
      · exact NC_pos

instance rounds_storable (g : GSem nD τ sig) (r : ℕ) (d : Bool) :
    BI.Storable (upEmb : UEmb _ 𝕄) ((rounds (F := F) m ρ).payload g r d) := by
  rcases g with ⟨t, _ | q⟩
  · show BI.Storable upEmb (barPay t.1 d); infer_instance
  · show BI.Storable upEmb (if q.val < 26 then sendPay m ρ t.1 (atPlace (q.val - 2)) else if q.val < 50 then recvPay m ρ t.1 (atPlace (q.val - 26)) else copyPay m ρ t.1)
    (repeat' split) <;> infer_instance

section Tables
variable (c : Dev nD)

omit [FloatOps F] in
theorem duties_bar : (rounds (F := F) m ρ).duties (barCell c) 0 = Finset.univ := by dsimp only [rounds]; exact if_pos ⟨rfl, rfl⟩
omit [FloatOps F] in
/-- A DMA cell of the ring has one duty. -/
theorem duties_dma (q : DmaSem sig) (hq : 2 ≤ q.val) : (rounds (F := F) m ρ).duties ((c : Thread nD τ), .dma q) 0 = {false} := by
  dsimp only [rounds]; rw [if_pos ⟨rfl, rfl⟩, if_pos hq]
omit [FloatOps F] in
theorem duties_send (i : ℕ) : (rounds (F := F) m ρ).duties (sendCell c i) 0 = {false} := duties_dma m ρ c _ (Nat.le_add_left _ _)
omit [FloatOps F] in
theorem duties_recv (i : ℕ) : (rounds (F := F) m ρ).duties (recvCell c i) 0 = {false} :=
  duties_dma m ρ c _ (show 2 ≤ place i + 26 by omega)
omit [FloatOps F] in
theorem duties_copy : (rounds (F := F) m ρ).duties (copyCell c) 0 = {false} := duties_dma m ρ c _ (by decide)
omit [FloatOps F] in
/-- There is no later round. -/
theorem duties_later (g : GSem nD τ sig) : ∀ r, 1 ≤ r → (rounds (F := F) m ρ).duties g r = ∅ :=
  fun r hr => by dsimp only [rounds]; exact if_neg fun h => by omega

omit [FloatOps F] in
theorem amount_bar (d : Bool) : (rounds (F := F) m ρ).amount (barCell c) 0 d = 1 := rfl
omit [FloatOps F] in
theorem amount_send (i : ℕ) (d : Bool) : (rounds (F := F) m ρ).amount (sendCell c i) 0 d = N := by
  dsimp only [rounds]; exact if_pos (show place i + 2 < 50 by have := place_lt i; omega)
omit [FloatOps F] in
theorem amount_recv (i : ℕ) (d : Bool) : (rounds (F := F) m ρ).amount (recvCell c i) 0 d = N := by
  dsimp only [rounds]; exact if_pos (show place i + 26 < 50 by have := place_lt i; omega)
omit [FloatOps F] in
theorem amount_copy (d : Bool) : (rounds (F := F) m ρ).amount (copyCell c) 0 d = NC := by
  dsimp only [rounds]; exact if_neg (by decide)

omit [FloatOps F] in
theorem expect_bar : (rounds (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
/-- A DMA cell's round expects what its one duty pays. -/
theorem expect_dma (q : DmaSem sig) (hq : 2 ≤ q.val) :
    (rounds (F := F) m ρ).expect ((c : Thread nD τ), .dma q) 0 = (rounds (F := F) m ρ).amount ((c : Thread nD τ), .dma q) 0 false := by
  unfold Schedule.expect Schedule.amountOf; rw [duties_dma m ρ c q hq, Finset.sum_singleton]
omit [FloatOps F] in
theorem expect_send (i : ℕ) : (rounds (F := F) m ρ).expect (sendCell c i) 0 = N :=
  (expect_dma m ρ c _ (Nat.le_add_left _ _)).trans (amount_send m ρ c i false)
omit [FloatOps F] in
theorem expect_recv (i : ℕ) : (rounds (F := F) m ρ).expect (recvCell c i) 0 = N :=
  (expect_dma m ρ c _ (show 2 ≤ place i + 26 by omega)).trans (amount_recv m ρ c i false)
omit [FloatOps F] in
theorem expect_copy : (rounds (F := F) m ρ).expect (copyCell c) 0 = NC :=
  (expect_dma m ρ c copyS (by decide)).trans (amount_copy m ρ c false)

omit [FloatOps F] in
theorem payload_bar (d : Bool) : (rounds (F := F) m ρ).payload (barCell c) 0 d = barPay c d := rfl
omit [FloatOps F] in
theorem payload_send (i : ℕ) (hi : i < 24) (d : Bool) : (rounds (F := F) m ρ).payload (sendCell c i) 0 d = sendPay m ρ c i := by
  have h := place_lt i
  show (if place i + 2 < 26 then sendPay m ρ c (atPlace (place i + 2 - 2)) else _) = _
  rw [if_pos (by omega), Nat.add_sub_cancel, atPlace_place i hi]
omit [FloatOps F] in
theorem payload_recv (i : ℕ) (hi : i < 24) (d : Bool) : (rounds (F := F) m ρ).payload (recvCell c i) 0 d = recvPay m ρ c i := by
  have h := place_lt i
  show (if place i + 26 < 26 then sendPay m ρ c (atPlace (place i + 26 - 2)) else if place i + 26 < 50 then recvPay m ρ c (atPlace (place i + 26 - 26)) else copyPay m ρ c) = _
  rw [if_neg (by omega), if_pos (by omega), Nat.add_sub_cancel, atPlace_place i hi]
omit [FloatOps F] in
theorem payload_copy (d : Bool) : (rounds (F := F) m ρ).payload (copyCell c) 0 d = copyPay m ρ c := by
  show (if (50 : ℕ) < 26 then sendPay m ρ c (atPlace (50 - 2)) else if (50 : ℕ) < 50 then recvPay m ρ c (atPlace (50 - 26)) else copyPay m ρ c) = _
  rw [if_neg (by decide), if_neg (by decide)]

omit [FloatOps F] in
/-- The forward and the backward transfers are all the transfers. -/
theorem going_all (Φ : ℕ → sProp 𝕄) : iprop(bigSep (going false) Φ ∗ bigSep (going true) Φ) = bigSep (Finset.Ico 0 24) Φ := by
  have h : Finset.Ico 0 24 = going false ∪ going true := by decide
  rw [h, bigSep_union (by decide)]
  rfl

omit [FloatOps F] in
/-- A whole round of the barrier cell hands over every band `c` is to fill. -/
theorem rest_bar : bigSep ((rounds (F := F) m ρ).duties (barCell c) 0 \ ∅) (fun d => (rounds (F := F) m ρ).payload (barCell c) 0 d)
    = bigSep (Finset.Ico 0 24) (fun i => landing (F := F) c i) := by
  rw [Finset.sdiff_empty, duties_bar, bigSep_univ_eq_bigSepL [false, true] (by decide) (by decide), bigSepL_cons_cons, bigSepL_singleton,
    payload_bar, payload_bar]
  exact going_all _
omit [FloatOps F] in
theorem rest_send (i : ℕ) (hi : i < 24) : bigSep ((rounds (F := F) m ρ).duties (sendCell c i) 0 \ ∅) (fun d => (rounds (F := F) m ρ).payload (sendCell c i) 0 d) = sendPay m ρ c i := by
  rw [Finset.sdiff_empty, duties_send, bigSep_singleton, payload_send m ρ c i hi]
omit [FloatOps F] in
theorem rest_recv (i : ℕ) (hi : i < 24) : bigSep ((rounds (F := F) m ρ).duties (recvCell c i) 0 \ ∅) (fun d => (rounds (F := F) m ρ).payload (recvCell c i) 0 d) = recvPay m ρ c i := by
  rw [Finset.sdiff_empty, duties_recv, bigSep_singleton, payload_recv m ρ c i hi]
omit [FloatOps F] in
theorem rest_copy : bigSep ((rounds (F := F) m ρ).duties (copyCell c) 0 \ ∅) (fun d => (rounds (F := F) m ρ).payload (copyCell c) 0 d) = copyPay m ρ c := by
  rw [Finset.sdiff_empty, duties_copy, bigSep_singleton, payload_copy]

end Tables

/-! ## What a device owes; the levels -/

/-- What device `c` owes with its first `a` transfers started: the receive credits of the others. -/
def owed (c : Dev nD) (a : ℕ) : CellTallies nD τ sig Unit := ∑ i ∈ Finset.Ico a 24, tallyAt (recvCell (dst c i) i) () N
/-- What it owes after its first signal: those of every transfer and its second signal's unit; -/
def O₁ (c : Dev nD) : CellTallies nD τ sig Unit := owed c 0 + tallyAt (barCell (nxt c)) () 1
/-- and at launch: its first signal's unit besides. -/
def O₀ (c : Dev nD) : CellTallies nD τ sig Unit := O₁ c + tallyAt (barCell (prv c)) () 1

theorem owed_step (c : Dev nD) (a : ℕ) (ha : a < 24) : owed c a = owed c (a + 1) + tallyAt (recvCell (dst c a) a) () N := by
  have h : Finset.Ico a 24 = insert a (Finset.Ico (a + 1) 24) := by
    ext x; simp only [Finset.mem_Ico, Finset.mem_insert]; omega
  unfold owed
  rw [h, Finset.sum_insert (by rw [Finset.mem_Ico]; omega), add_comm]
theorem owed_end (c : Dev nD) : owed c 24 = 0 := rfl

theorem owed_pos {c : Dev nD} {a : ℕ} {g : GSem nD τ sig} {u : Unit} (h : 0 < owed c a g u) :
    ∃ i, a ≤ i ∧ i < 24 ∧ g = recvCell (dst c i) i := by
  unfold owed at h
  rw [Finset.sum_apply, Finsupp.finset_sum_apply] at h
  obtain ⟨i, hi, hne⟩ := Finset.exists_ne_zero_of_sum_ne_zero (Nat.ne_of_gt h)
  refine ⟨i, (Finset.mem_Ico.mp hi).1, (Finset.mem_Ico.mp hi).2, ?_⟩
  rw [tallyAt_apply] at hne
  by_contra hg
  exact hne (if_neg fun h' => hg h'.1)

theorem O₀_pos {c : Dev nD} {g : GSem nD τ sig} {u : Unit} (h : 0 < O₀ c g u) :
    (∃ i, i < 24 ∧ g = recvCell (dst c i) i) ∨ g = barCell (nxt c) ∨ g = barCell (prv c) := by
  by_cases hw : 0 < owed c 0 g u
  · obtain ⟨i, -, hi, hg⟩ := owed_pos hw; exact Or.inl ⟨i, hi, hg⟩
  · by_contra hn
    rw [not_or, not_or] at hn
    have h1 : tallyAt (barCell (nxt c)) () 1 g u = 0 := by rw [tallyAt_apply]; exact if_neg fun h' => hn.2.1 h'.1
    have h2 : tallyAt (barCell (prv c)) () 1 g u = 0 := by rw [tallyAt_apply]; exact if_neg fun h' => hn.2.2 h'.1
    have h3 : O₀ c g u = owed c 0 g u + tallyAt (barCell (nxt c)) () 1 g u + tallyAt (barCell (prv c)) () 1 g u := by
      unfold O₀ O₁; rw [Pi.add_apply, Finsupp.add_apply, Pi.add_apply, Finsupp.add_apply]
    rw [h3, h1, h2] at h; simp only [Nat.add_zero] at h
    exact hw h

def L (g : GSem nD τ sig) : Finset Unit := if g.1.2 = .tc then {()} else ∅
/-- A barrier cell's level is 1, the receive cell's of transfer `i` is `2 + i`, any other's is 0. -/
def lv (g : GSem nD τ sig) (_ : Unit) : ℕ :=
  match g.2 with
  | .reg _ => 1
  | .dma q => if 26 ≤ q.val ∧ q.val < 50 then 2 + atPlace (q.val - 26) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (i : ℕ) (hi : i < 24) (u : Unit) : lv (recvCell c i) u = 2 + i := by
  have h := place_lt i
  show (if 26 ≤ place i + 26 ∧ place i + 26 < 50 then 2 + atPlace (place i + 26 - 26) else 0) = _
  rw [if_pos ⟨by omega, by omega⟩, Nat.add_sub_cancel, atPlace_place i hi]

omit [FloatOps F] in
/-- A device waiting for a staging cell owes only cells of greater levels, at launch and at the end. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, -, rfl⟩ | rfl | rfl <;> exact Finset.mem_singleton_self _)
      (fun p hp => by rw [Finset.mem_singleton.mp hp]; dsimp only [lv]; rw [if_neg (fun h => by omega)])
      (fun g u hg => by
        rcases O₀_pos hg with ⟨i, hi, rfl⟩ | rfl | rfl
        · rw [lv_recv _ i hi]; omega
        · rw [lv_bar]; decide
        · rw [lv_bar]; decide)
  · rw [MayWait_zero]; iintro -; iempintro

omit [FloatOps F] in
/-- A device waiting for its barrier cell owes receive credits only. -/
theorem mayWait_bar (c : Dev nD) :
    (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by obtain ⟨i, -, -, rfl⟩ := owed_pos hg; exact Finset.mem_singleton_self _)
    (fun p hp => by rw [Finset.mem_singleton.mp hp]; exact le_of_eq (lv_bar c ()))
    (fun g u hg => by obtain ⟨i, -, hi, rfl⟩ := owed_pos hg; rw [lv_recv _ i hi]; omega)

omit [FloatOps F] in
/-- A device waiting for transfer `j`, more than `j` of its own started, owes credits for later transfers only. -/
theorem mayWait_recv (c : Dev nD) (j a : ℕ) (hj : j < 24) (ha : j < a) :
    (levAts L lv : sProp 𝕄) ⊢ MayWait (c : Thread nD τ) (.dma (recvS j)) () (owed c a) :=
  MayOwe.of_cut (L := L) (lev := lv) (2 + j) (fun p hp => by rw [Finset.mem_singleton.mp hp, L_tc]; exact Finset.mem_singleton_self _)
    (fun g u hg => by obtain ⟨i, -, -, rfl⟩ := owed_pos hg; exact Finset.mem_singleton_self _)
    (fun p hp => by rw [Finset.mem_singleton.mp hp]; exact le_of_eq (lv_recv c j hj ()))
    (fun g u hg => by obtain ⟨i, hi, hi', rfl⟩ := owed_pos hg; rw [lv_recv _ i hi']; omega)

omit [FloatOps F] in
/-- A device that owes nothing may wait for any cell. -/
theorem mayWait_end (c : Dev nD) (sm : SemLoc sig) :
    (levAts L lv : sProp 𝕄) ⊢ MayWait (c : Thread nD τ) sm () (owed c 24) := by
  rw [owed_end, MayWait_zero]; iintro -; iempintro

end Cert.KernelIdeal.Gather

end
-- ==== Proof.KernelIdealSteps.lean ====
/-
# The kernel's steps

How far a device is in its program is told by three numbers: `a` transfers started, `b` incoming transfers waited for
and `e` of its own transfers waited for. `St c R a b e` is what device `c` then holds, `R` being the state of the copy
of its own block. Each kind of step — starting a transfer of the device's own rows, passing one on, waiting for an
incoming one, waiting for one of its own, starting the copy, waiting for it — is one theorem, which takes `St` at the
numbers before it to `St` at the numbers after it.
-/
module

public import proofs.«01_k».proof.Proof.KernelIdealCells
public import Idealize.SL.BI.BigOpNat

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows of every cell -/

set_option backward.proofsInPublic true in
/-- The ring's fifty semaphores of a device: the barrier's and the 49 DMA ones. -/
def csem (k : Fin 50) : SemLoc sig :=
  if k.val = 0 then .reg barS else .dma ⟨k.val + 1, show k.val + 1 < 51 by omega⟩
theorem csem_dma (k : Fin 50) (h : ¬ k.val = 0) : csem k = .dma ⟨k.val + 1, show k.val + 1 < 51 by omega⟩ := if_neg h
/-- The ring's cells. -/
abbrev kcell (ck : Dev nD × Fin 50) : GSem nD τ sig := ((ck.1 : Thread nD τ), csem ck.2)

set_option backward.proofsInPublic true in
def sendK (i : ℕ) : Fin 50 := ⟨place i + 1, by have := place_lt i; omega⟩
set_option backward.proofsInPublic true in
def recvK (i : ℕ) : Fin 50 := ⟨place i + 25, by have := place_lt i; omega⟩

theorem kcell_bar (c : Dev nD) : kcell (c, 0) = barCell c := rfl
theorem kcell_send (c : Dev nD) (i : ℕ) : kcell (c, sendK i) = sendCell c i := Prod.ext rfl (csem_dma (sendK i) (Nat.succ_ne_zero _))
theorem kcell_recv (c : Dev nD) (i : ℕ) : kcell (c, recvK i) = recvCell c i := Prod.ext rfl (csem_dma (recvK i) (Nat.succ_ne_zero _))
theorem kcell_copy (c : Dev nD) : kcell (c, 49) = copyCell c := Prod.ext rfl (csem_dma 49 (by decide))

/-- A cell's invariant is set up and its round is open. -/
def cellKnown (g : GSem nD τ sig) : sProp 𝕄 := iprop((∃ κ, cellInv ER (rounds m ρ) κ g) ∗ reached ER g 0)
/-- So it is for every cell of every device. -/
def known : sProp 𝕄 := bigSep Finset.univ fun ck : Dev nD × Fin 50 => cellKnown m ρ (kcell ck)

instance cellKnown_persistent (g : GSem nD τ sig) : BI.Persistent (cellKnown m ρ g) := by unfold cellKnown; infer_instance
instance known_persistent : BI.Persistent (known m ρ) := by unfold known; infer_instance

theorem known_cell (ck : Dev nD × Fin 50) : known m ρ ⊢ cellKnown m ρ (kcell ck) := bigSep_elim (Finset.mem_univ ck)
theorem known_bar (c : Dev nD) : known m ρ ⊢ cellKnown m ρ (barCell c) := known_cell m ρ (c, 0)
theorem known_send (c : Dev nD) (i : ℕ) : known m ρ ⊢ cellKnown m ρ (sendCell c i) := kcell_send c i ▸ known_cell m ρ (c, sendK i)
theorem known_recv (c : Dev nD) (i : ℕ) : known m ρ ⊢ cellKnown m ρ (recvCell c i) := kcell_recv c i ▸ known_cell m ρ (c, recvK i)
theorem known_copy (c : Dev nD) : known m ρ ⊢ cellKnown m ρ (copyCell c) := kcell_copy c ▸ known_cell m ρ (c, 49)

/-! ## The state -/

/-- What hop-0 transfer `i` reads; nothing for a later one, which reads what an earlier one brought. -/
def slabOf (c : Dev nD) (i : ℕ) : sProp 𝕄 := if i < 8 then slabPts m ρ c (slabIx i) else iprop(emp)
/-- The rights to pay for transfer `i`, and what it reads. -/
def ready (c : Dev nD) (i : ℕ) : sProp 𝕄 :=
  iprop(dutyTok ER (sendCell c i) 0 false ∗ dutyTok ER (recvCell (dst c i) i) 0 false ∗ slabOf m ρ c i)
/-- A transfer not started: `ready`, and the band it is to fill. -/
def unsent (c : Dev nD) (i : ℕ) : sProp 𝕄 := iprop(ready m ρ c i ∗ landing c i)
/-- A transfer started and not waited for. -/
def flight (c : Dev nD) (i : ℕ) : sProp 𝕄 := cred (tallyAt (sendCell c i) () N)
/-- The send cell of a transfer not waited for. -/
def sendOpen (c : Dev nD) (i : ℕ) : sProp 𝕄 := atPos ER (sendCell c i) 0 ∅ 0
/-- A transfer waited for: its cell past its round, and what it read. -/
def sent (c : Dev nD) (i : ℕ) : sProp 𝕄 := iprop(atPos ER (sendCell c i) 1 ∅ 0 ∗ sendPay m ρ c i)
/-- An incoming transfer not waited for. -/
def due (c : Dev nD) (i : ℕ) : sProp 𝕄 := iprop(atPos ER (recvCell c i) 0 ∅ 0 ∗ cred (tallyAt (recvCell c i) () N))
/-- The receive cell of an incoming transfer waited for. -/
def arrived (c : Dev nD) (i : ℕ) : sProp 𝕄 := atPos ER (recvCell c i) 1 ∅ 0

/-- Device `c` after its handshake, `a` transfers started, `b` incoming ones and `e` own ones waited for: what it knows,
    what it owes, its transfers by stage, and the bands brought in and not yet passed on. -/
def St (c : Dev nD) (R : sProp 𝕄) (a b e : ℕ) : sProp 𝕄 :=
  iprop(known m ρ ∗ levAts L lv ∗ (∃ W, owes (c : Thread nD τ) (owed c a) W)
    ∗ bigSep (Finset.Ico a 24) (unsent m ρ c) ∗ bigSep (Finset.Ico e a) (flight (F := F) c)
    ∗ bigSep (Finset.Ico e 24) (sendOpen (F := F) c) ∗ bigSep (Finset.Ico 0 e) (sent m ρ c)
    ∗ bigSep (Finset.Ico b 24) (due (F := F) c) ∗ bigSep (Finset.Ico 0 b) (arrived (F := F) c)
    ∗ bigSep (Finset.Ico (a - 8) b) (recvPay m ρ c)
    ∗ atPos ER (barCell c) 1 ∅ 0 ∗ R)

/-- The copy not started: the right to pay for it, its cell, what it reads and what it overwrites. -/
def copyIdle (c : Dev nD) : sProp 𝕄 :=
  iprop(dutyTok ER (copyCell c) 0 false ∗ atPos ER (copyCell c) 0 ∅ 0 ∗ xPts m ρ c ∗ ∃ f, ownPts c f)
/-- The copy started. -/
def copyFlying (c : Dev nD) : sProp 𝕄 := iprop(cred (tallyAt (copyCell c) () NC) ∗ atPos ER (copyCell c) 0 ∅ 0)
/-- The copy waited for. -/
def copyDone (c : Dev nD) : sProp 𝕄 := iprop(atPos ER (copyCell c) 1 ∅ 0 ∗ copyPay m ρ c)

/-! ## The steps -/

/-- From what a step leaves to the rest of the program. -/
theorem resume {P A B C : sProp 𝕄} (h : A ⊢ B) (hs : P ⊢ iprop((A -∗ B) -∗ C)) : P ⊢ C := by
  iintro H
  iapply hs $$ H
  iintro HA
  iapply h
  iexact HA

section Steps

/-- Starting a transfer: the library's rule at this ring's cells, the source's contents and what it gives back left open. -/
theorem send_core {α : Type} {Q : α → sProp 𝕄} {k : PUnit.{1} → Prog (TpuEff nD τ sig (Elt F) Λ₀ .tc) α}
    (c : Dev nD) (i : ℕ) (hi : i < 24) (src : Memref sig .tc .vmem S256x512 .f32) (q : PosShare TreeShare)
    (fs : Buf (Elt F) (src.view.loc (c : Thread nD τ)))
    (hback : (src.view.loc (c : Thread nD τ) ↦[src.view.set]{q} fs : sProp 𝕄) ⊢ sendPay m ρ c i)
    (hland : ∀ (fd : S8192x512.Idx → Elt F .f32), ∀ y ∈ (bandM (band (dst c i) i)).view.set,
      (bandM (band (dst c i) i)).view.write (Elt F) fd (src.view.read (Elt F) fs) Finset.univ y = gath m ρ y)
    (n : Dev nD) (hn : n = dst c i)
    {hsc : (bandM (band (dst c i) i) : Memref sig (Dev.tc n : Thread nD τ).2.kind .vmem S256x512 .f32).view.ref.isScScratch = false}
    {hsrc : src.view.WordExact} {hdst : (bandM (band (dst c i) i)).view.WordExact}
    {hsem : DmaTarget.Typed .vmem (.dma (recvS i)) (.remote (Dev.tc n : Thread nD τ) (bandM (band (dst c i) i)) (.dma (sendS i)) hsc)}
    (O O' : CellTallies nD τ sig Unit) (hO : O = O' + tallyAt (recvCell (dst c i) i) () N) (W : Waits sig Unit) (κ₁ κ₂ : ℕ)
    (fd : Buf (Elt F) ((bandM (band (dst c i) i)).view.loc (dst c i : Thread nD τ))) :
    iprop(cellInv ER (rounds m ρ) κ₁ (sendCell c i) ∗ cellInv ER (rounds m ρ) κ₂ (recvCell (dst c i) i)
        ∗ (src.view.loc (c : Thread nD τ) ↦[src.view.set]{q} fs) ∗ bandPts (dst c i) (band (dst c i) i) fd ∗ owes (c : Thread nD τ) O W
        ∗ dutyTok ER (sendCell c i) 0 false ∗ reached ER (sendCell c i) 0
        ∗ dutyTok ER (recvCell (dst c i) i) 0 false ∗ reached ER (recvCell (dst c i) i) 0)
      ⊢ iprop(((cred (tallyAt (sendCell c i) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (bandM (band (dst c i) i)) (.dma (sendS i)) hsc) (.dma (recvS i)) hsrc hdst hsem) k) Q) := by
  subst hn
  unfold bandPts
  exact Rounds.wp_send_pointsTo 𝒱₀ ER (rounds m ρ) (c : Thread nD τ) none (κ₁ := κ₁) (κ₂ := κ₂)
    (r₁ := 0) (r₂ := 0) (d₁ := false) (d₂ := false) (fd := fd)
    (by rw [duties_send]; exact Finset.mem_singleton_self _) (by rw [duties_recv]; exact Finset.mem_singleton_self _)
    () () N rfl (amount_send m ρ c i false) (amount_recv m ρ (dst c i) i false) O' hO (W := W)
    (by rw [payload_send m ρ c i hi]; exact hback)
    (by rw [payload_recv m ρ (dst c i) i hi]; unfold recvPay bandPts; exact Entails.of_eq (pointsTo_congr (hland fd)))

/-- The same, the cells' invariants taken from what every device knows, and the program's own text of the transfer. -/
theorem send_band {α : Type} {Q : α → sProp 𝕄} {k : PUnit.{1} → Prog (TpuEff nD τ sig (Elt F) Λ₀ .tc) α}
    (c : Dev nD) (i : ℕ) (hi : i < 24) (src : Memref sig .tc .vmem S256x512 .f32) (q : PosShare TreeShare)
    (fs : Buf (Elt F) (src.view.loc (c : Thread nD τ)))
    (hback : (src.view.loc (c : Thread nD τ) ↦[src.view.set]{q} fs : sProp 𝕄) ⊢ sendPay m ρ c i)
    (hland : ∀ (fd : S8192x512.Idx → Elt F .f32), ∀ y ∈ (bandM (band (dst c i) i)).view.set,
      (bandM (band (dst c i) i)).view.write (Elt F) fd (src.view.read (Elt F) fs) Finset.univ y = gath m ρ y)
    (n : Dev nD) (hn : n = dst c i) (off : Fin 2 → ℕ) (hoff : off = ![256 * (band (dst c i) i).val, 0])
    (inb : ∀ a, off a + S256x512.size a ≤ S8192x512.size a) (sS sR : DmaSem sig) (hS : sS = sendS i) (hR : sR = recvS i)
    {hsc : (oM.slice (Rect.unit (s := S8192x512) off S256x512.size inb) (fun _ => rfl) : Memref sig (Dev.tc n : Thread nD τ).2.kind .vmem S256x512 .f32).view.ref.isScScratch = false}
    {hsrc : src.view.WordExact} {hdst : (oM.slice (Rect.unit (s := S8192x512) off S256x512.size inb) (fun _ => rfl)).view.WordExact}
    {hsem : DmaTarget.Typed .vmem (.dma sR) (.remote (Dev.tc n : Thread nD τ) (oM.slice (Rect.unit (s := S8192x512) off S256x512.size inb) (fun _ => rfl)) (.dma sS) hsc)}
    (O O' : CellTallies nD τ sig Unit) (hO : O = O' + tallyAt (recvCell (dst c i) i) () N) (W : Waits sig Unit) :
    iprop(known m ρ ∗ (src.view.loc (c : Thread nD τ) ↦[src.view.set]{q} fs) ∗ landing c i ∗ owes (c : Thread nD τ) O W
        ∗ dutyTok ER (sendCell c i) 0 false ∗ dutyTok ER (recvCell (dst c i) i) 0 false)
      ⊢ iprop(((flight c i ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (oM.slice (Rect.unit (s := S8192x512) off S256x512.size inb) (fun _ => rfl)) (.dma sS) hsc) (.dma sR) hsrc hdst hsem) k) Q) := by
  subst hoff hS hR
  unfold landing flight
  iintro ⟨#HK, Hs, ⟨%fd, Hd⟩, HO, HtS, HtR⟩
  ihave Hc1 := (known_send m ρ c i) $$ HK
  ihave Hc2 := (known_recv m ρ (dst c i) i) $$ HK
  unfold cellKnown
  icases Hc1 with ⟨⟨%κ₁, HI1⟩, Hr1⟩
  icases Hc2 with ⟨⟨%κ₂, HI2⟩, Hr2⟩
  iapply (send_core m ρ c i hi src q fs hback hland n hn O O' hO W κ₁ κ₂ fd)
  isplitl [HI1]; · iexact HI1
  isplitl [HI2]; · iexact HI2
  isplitl [Hs]; · iexact Hs
  isplitl [Hd]; · iexact Hd
  isplitl [HO]; · iexact HO
  isplitl [HtS]; · iexact HtS
  isplitl [Hr1]; · iexact Hr1
  isplitl [HtR]; · iexact HtR
  iexact Hr2

/-- Starting a transfer of the device's own rows. -/
theorem send_own {α : Type} {Q : α → sProp 𝕄} {k : PUnit.{1} → Prog (TpuEff nD τ sig (Elt F) Λ₀ .tc) α}
    {c : Dev nD} {R : sProp 𝕄} {b e : ℕ} (a : ℕ) (ha : a < 8) (hea : e ≤ a)
    {n : Dev nD} (hn : n = dst c a) {off soff : Fin 2 → ℕ} (hoff : off = ![256 * (band (dst c a) a).val, 0]) (hsoff : soff = ![256 * (slabIx a).val, 0])
    {inb : ∀ a, off a + S256x512.size a ≤ S8192x512.size a} {sinb : ∀ a, soff a + S256x512.size a ≤ S2048x512.size a}
    {sS sR : DmaSem sig} (hS : sS = sendS a) (hR : sR = recvS a)
    {hsc : (oM.slice (Rect.unit (s := S8192x512) off S256x512.size inb) (fun _ => rfl) : Memref sig (Dev.tc n : Thread nD τ).2.kind .vmem S256x512 .f32).view.ref.isScScratch = false}
    {hsrc : (xM.slice (Rect.unit (s := S2048x512) soff S256x512.size sinb) (fun _ => rfl)).view.WordExact}
    {hdst : (oM.slice (Rect.unit (s := S8192x512) off S256x512.size inb) (fun _ => rfl)).view.WordExact}
    {hsem : DmaTarget.Typed .vmem (.dma sR) (.remote (Dev.tc n : Thread nD τ) (oM.slice (Rect.unit (s := S8192x512) off S256x512.size inb) (fun _ => rfl)) (.dma sS) hsc)}
    (h : St m ρ c R (a + 1) b e ⊢ wp frame (wpE (defs₀ (F := F)) 𝒱₀ (c : Thread nD τ) none) Set.univ (k ⟨⟩) Q) :
    St m ρ c R a b e ⊢ wp frame (wpE (defs₀ (F := F)) 𝒱₀ (c : Thread nD τ) none) Set.univ
      (.op (.enqueueDma (xM.slice (Rect.unit (s := S2048x512) soff S256x512.size sinb) (fun _ => rfl)) (.remote (Dev.tc n : Thread nD τ) (oM.slice (Rect.unit (s := S8192x512) off S256x512.size inb) (fun _ => rfl)) (.dma sS) hsc) (.dma sR) hsrc hdst hsem) k) Q := by
  subst hsoff
  refine resume h ?_
  unfold St
  rw [bigSep_Ico_succ_bot (show a < 24 by omega) (unsent m ρ c), bigSep_Ico_succ_top hea, show a - 8 = 0 by omega, show a + 1 - 8 = 0 by omega]
  unfold unsent ready slabOf
  rw [if_pos ha]
  iintro ⟨#HK, #Hlev, ⟨%W, HO⟩, ⟨⟨⟨HtS, HtR, Hx⟩, Hl⟩, Hun⟩, Hfl, Hrest⟩ Hk
  unfold slabPts
  iapply (send_band m ρ c a (by omega) (slabM (slabIx a)) fullShare.left (xstg m ρ c)
    (by unfold sendPay slabPts; rw [if_pos ha])
    (fun fd => write_own_band (xstg m ρ) c (slabIx a) _ (band_dst_own c a ha) fd)
    n hn off hoff inb sS sR hS hR _ (owed c (a + 1)) (owed_step c a (by omega)) W) $$ [Hx Hl HO HtS HtR]
  · isplitr; · iexact HK
    isplitl [Hx]; · iexact Hx
    isplitl [Hl]; · iexact Hl
    isplitl [HO]; · iexact HO
    isplitl [HtS] <;> iassumption
  iintro ⟨Hf, HO⟩
  iapply Hk
  isplitr; · iexact HK
  isplitr; · iexact Hlev
  isplitl [HO]; · iexists W; iexact HO
  isplitl [Hun]; · iexact Hun
  isplitl [Hf Hfl]; · isplitl [Hf] <;> iassumption
  iexact Hrest

/-- Passing on a band that transfer `a - 8` brought in. -/
theorem send_fwd {α : Type} {Q : α → sProp 𝕄} {k : PUnit.{1} → Prog (TpuEff nD τ sig (Elt F) Λ₀ .tc) α}
    {c : Dev nD} {R : sProp 𝕄} {b e : ℕ} (a : ℕ) (ha : 8 ≤ a) (ha' : a < 24) (hea : e ≤ a) (hb : a - 8 < b)
    {n : Dev nD} (hn : n = dst c a) {off : Fin 2 → ℕ} (hoff : off = ![256 * (band (dst c a) a).val, 0])
    {inb inb' : ∀ a, off a + S256x512.size a ≤ S8192x512.size a}
    {sS sR : DmaSem sig} (hS : sS = sendS a) (hR : sR = recvS a)
    {hsc : (oM.slice (Rect.unit (s := S8192x512) off S256x512.size inb) (fun _ => rfl) : Memref sig (Dev.tc n : Thread nD τ).2.kind .vmem S256x512 .f32).view.ref.isScScratch = false}
    {hsrc : (oM.slice (Rect.unit (s := S8192x512) off S256x512.size inb') (fun _ => rfl)).view.WordExact}
    {hdst : (oM.slice (Rect.unit (s := S8192x512) off S256x512.size inb) (fun _ => rfl)).view.WordExact}
    {hsem : DmaTarget.Typed .vmem (.dma sR) (.remote (Dev.tc n : Thread nD τ) (oM.slice (Rect.unit (s := S8192x512) off S256x512.size inb) (fun _ => rfl)) (.dma sS) hsc)}
    (h : St m ρ c R (a + 1) b e ⊢ wp frame (wpE (defs₀ (F := F)) 𝒱₀ (c : Thread nD τ) none) Set.univ (k ⟨⟩) Q) :
    St m ρ c R a b e ⊢ wp frame (wpE (defs₀ (F := F)) 𝒱₀ (c : Thread nD τ) none) Set.univ
      (.op (.enqueueDma (oM.slice (Rect.unit (s := S8192x512) off S256x512.size inb') (fun _ => rfl)) (.remote (Dev.tc n : Thread nD τ) (oM.slice (Rect.unit (s := S8192x512) off S256x512.size inb) (fun _ => rfl)) (.dma sS) hsc) (.dma sR) hsrc hdst hsem) k) Q := by
  subst hoff
  refine resume h ?_
  unfold St
  rw [bigSep_Ico_succ_bot ha' (unsent m ρ c), bigSep_Ico_succ_top hea, bigSep_Ico_succ_bot hb, show a + 1 - 8 = a - 8 + 1 by omega]
  unfold unsent ready
  iintro ⟨#HK, #Hlev, ⟨%W, HO⟩, ⟨⟨⟨HtS, HtR, -⟩, Hl⟩, Hun⟩, Hfl, Hso, Hse, Hdu, Har, ⟨Hp, Hheld⟩, Hrest⟩ Hk
  unfold recvPay bandPts
  rw [← band_dst_fwd c a ha' ha]
  iapply (send_band m ρ c a ha' (bandM (band (dst c a) a)) fullShare (gath m ρ)
    (by unfold sendPay bandPts; rw [if_neg (by omega), band_dst_fwd c a ha' ha])
    (fun fd => write_fwd_band _ (gath m ρ) fd)
    n hn _ rfl inb sS sR hS hR _ (owed c (a + 1)) (owed_step c a ha') W) $$ [Hp Hl HO HtS HtR]
  · isplitr; · iexact HK
    isplitl [Hp]; · iexact Hp
    isplitl [Hl]; · iexact Hl
    isplitl [HO]; · iexact HO
    isplitl [HtS] <;> iassumption
  iintro ⟨Hf, HO⟩
  iapply Hk
  isplitr; · iexact HK
  isplitr; · iexact Hlev
  isplitl [HO]; · iexists W; iexact HO
  isplitl [Hun]; · iexact Hun
  isplitl [Hf Hfl]; · isplitl [Hf] <;> iassumption
  isplitl [Hso]; · iexact Hso
  isplitl [Hse]; · iexact Hse
  isplitl [Hdu]; · iexact Hdu
  isplitl [Har]; · iexact Har
  isplitl [Hheld]; · iexact Hheld
  iexact Hrest

/-- Waiting for incoming transfer `b`, `a > b` transfers started. -/
theorem wait_recv {α : Type} {Q : α → sProp 𝕄} {k : PUnit.{1} → Prog (TpuEff nD τ sig (Elt F) Λ₀ .tc) α}
    {c : Dev nD} {R : sProp 𝕄} {a e : ℕ} (b : ℕ) (hb : b < 24) (hba : b < a) (hab : a - 8 ≤ b)
    {sR : DmaSem sig} (hR : sR = recvS b)
    {sp : Space} {vA : Memref sig .tc sp S256x512 .f32} {off : Fin 2 → ℕ} {inb : ∀ a, off a + S256x512.size a ≤ S8192x512.size a}
    {h₁ : vA.view.WordExact} {h₂ : (oM.slice (Rect.unit (s := S8192x512) off S256x512.size inb) (fun _ => rfl)).view.WordExact}
    (h : St m ρ c R a (b + 1) e ⊢ wp frame (wpE (defs₀ (F := F)) 𝒱₀ (c : Thread nD τ) none) Set.univ (k ⟨⟩) Q) :
    St m ρ c R a b e ⊢ wp frame (wpE (defs₀ (F := F)) 𝒱₀ (c : Thread nD τ) none) Set.univ
      (.op (.waitDma2 sR vA (oM.slice (Rect.unit (s := S8192x512) off S256x512.size inb) (fun _ => rfl)) h₁ h₂) k) Q := by
  subst hR
  refine resume h ?_
  unfold St
  rw [bigSep_Ico_succ_bot hb (due c), bigSep_Ico_succ_top (Nat.zero_le b) (arrived c), bigSep_Ico_succ_top hab]
  iintro ⟨#HK, #Hlev, ⟨%W, HO⟩, Hun, Hfl, Hso, Hse, ⟨Hd, Hdu⟩, Har, Hheld, Hrest⟩ Hk
  unfold due
  icases Hd with ⟨Hat, Hc⟩
  ihave Hc1 := (known_recv m ρ c b) $$ HK
  unfold cellKnown
  icases Hc1 with ⟨⟨%κ, HI⟩, -⟩
  iapply (Rounds.wp_wait_rest_token 𝒱₀ ER (rounds m ρ) (c : Thread nD τ) none (κ := κ)
      (wpE_waitDma2_eq 𝒱₀ (c : Thread nD τ) none Set.univ) (Set.mem_univ _) () (O := owed c a) (W := W) (R := 0) (m := 0) (T := ∅)
      (by rw [Nat.zero_add, expect_recv]; rfl)) $$ [HI Hc HO Hat]
  · isplitl [HI]; · iexact HI
    isplitl [Hc]; · iexact Hc
    isplitl [HO]; · iexact HO
    isplitr; · iapply (mayWait_recv c b a hb hba); iexact Hlev
    iexact Hat
  iintro ⟨HO, Hat, -, Hpay⟩
  ihave Hp := (Entails.of_eq (rest_recv m ρ c b hb)) $$ Hpay
  iapply Hk
  isplitr; · iexact HK
  isplitr; · iexact Hlev
  isplitl [HO]; · iexists _; iexact HO
  isplitl [Hun]; · iexact Hun
  isplitl [Hfl]; · iexact Hfl
  isplitl [Hso]; · iexact Hso
  isplitl [Hse]; · iexact Hse
  isplitl [Hdu]; · iexact Hdu
  isplitl [Hat Har]
  · isplitl [Hat]; · unfold arrived; iexact Hat
    iexact Har
  isplitl [Hp Hheld]; · isplitl [Hp] <;> iassumption
  iexact Hrest

/-- Waiting for the device's own transfer `e`, every transfer started. -/
theorem wait_send {α : Type} {Q : α → sProp 𝕄} {k : PUnit.{1} → Prog (TpuEff nD τ sig (Elt F) Λ₀ .tc) α}
    {c : Dev nD} {R : sProp 𝕄} {b : ℕ} (e : ℕ) (he : e < 24)
    {sS : DmaSem sig} (hS : sS = sendS e)
    {sp sp' : Space} {vA : Memref sig .tc sp S256x512 .f32} {vB : Memref sig .tc sp' S256x512 .f32} (hN : vB.view.dmaCredit = N)
    {h₁ : vA.view.WordExact} {h₂ : vB.view.WordExact}
    (h : St m ρ c R 24 b (e + 1) ⊢ wp frame (wpE (defs₀ (F := F)) 𝒱₀ (c : Thread nD τ) none) Set.univ (k ⟨⟩) Q) :
    St m ρ c R 24 b e ⊢ wp frame (wpE (defs₀ (F := F)) 𝒱₀ (c : Thread nD τ) none) Set.univ (.op (.waitDma2 sS vA vB h₁ h₂) k) Q := by
  subst hS
  refine resume h ?_
  unfold St
  rw [bigSep_Ico_succ_bot he (flight c), bigSep_Ico_succ_bot he (sendOpen c), bigSep_Ico_succ_top (Nat.zero_le e) (sent m ρ c)]
  iintro ⟨#HK, #Hlev, ⟨%W, HO⟩, Hun, ⟨Hc, Hfl⟩, ⟨Hat, Hso⟩, Hse, Hrest⟩ Hk
  unfold flight sendOpen
  ihave Hc1 := (known_send m ρ c e) $$ HK
  unfold cellKnown
  icases Hc1 with ⟨⟨%κ, HI⟩, -⟩
  rw [← hN]
  iapply (Rounds.wp_wait_rest_token 𝒱₀ ER (rounds m ρ) (c : Thread nD τ) none (κ := κ)
      (wpE_waitDma2_eq 𝒱₀ (c : Thread nD τ) none Set.univ) (Set.mem_univ _) () (O := owed c 24) (W := W) (R := 0) (m := 0) (T := ∅)
      (by rw [Nat.zero_add, expect_send]; exact hN)) $$ [HI Hc HO Hat]
  · isplitl [HI]; · iexact HI
    isplitl [Hc]; · iexact Hc
    isplitl [HO]; · iexact HO
    isplitr; · iapply (mayWait_end c _); iexact Hlev
    iexact Hat
  iintro ⟨HO, Hat, -, Hpay⟩
  ihave Hp := (Entails.of_eq (rest_send m ρ c e he)) $$ Hpay
  iapply Hk
  isplitr; · iexact HK
  isplitr; · iexact Hlev
  isplitl [HO]; · iexists _; iexact HO
  isplitl [Hun]; · iexact Hun
  isplitl [Hfl]; · iexact Hfl
  isplitl [Hso]; · iexact Hso
  isplitl [Hat Hp Hse]
  · isplitl [Hat Hp]
    · unfold sent; isplitl [Hat] <;> iassumption
    iexact Hse
  iexact Hrest

/-- Starting the copy of the device's own block into the result. -/
theorem copy_start {α : Type} {Q : α → sProp 𝕄} {k : PUnit.{1} → Prog (TpuEff nD τ sig (Elt F) Λ₀ .tc) α}
    {c : Dev nD} {a b e : ℕ} {off : Fin 2 → ℕ} (hoff : off = ![2048 * c.val, 0])
    {inb : ∀ a, off a + S2048x512.size a ≤ S8192x512.size a} {s : DmaSem sig} (hs : s = copyS)
    {hsrc : xM.view.WordExact} {hdst : (oM.slice (Rect.unit (s := S8192x512) off S2048x512.size inb) (fun _ => rfl)).view.WordExact}
    {hsem : DmaTarget.Typed (nD := nD) (p := (c : Thread nD τ).2) .vmem (.dma s) (.here (oM.slice (Rect.unit (s := S8192x512) off S2048x512.size inb) (fun _ => rfl)))}
    (h : St m ρ c (copyFlying c) a b e ⊢ wp frame (wpE (defs₀ (F := F)) 𝒱₀ (c : Thread nD τ) none) Set.univ (k ⟨⟩) Q) :
    St m ρ c (copyIdle m ρ c) a b e ⊢ wp frame (wpE (defs₀ (F := F)) 𝒱₀ (c : Thread nD τ) none) Set.univ
      (.op (.enqueueDma xM (.here (oM.slice (Rect.unit (s := S8192x512) off S2048x512.size inb) (fun _ => rfl))) (.dma s) hsrc hdst hsem) k) Q := by
  subst hoff hs
  refine resume h ?_
  unfold St copyIdle copyFlying
  iintro ⟨#HK, Hlev, HO, Hun, Hfl, Hso, Hse, Hdu, Har, Hheld, Hbar, Htok, Hat, Hx, ⟨%f, Hown⟩⟩ Hk
  ihave Hc1 := (known_copy m ρ c) $$ HK
  unfold cellKnown xPts ownPts
  icases Hc1 with ⟨⟨%κ, HI⟩, Hr⟩
  iapply (Rounds.wp_copy_pointsTo 𝒱₀ ER (rounds m ρ) (c : Thread nD τ) none (κ := κ) (r := 0) (d := false)
    (src := xM) (dst := ownM c) (q := fullShare.right) (fs := xstg m ρ c) (fd := f)
    (by rw [duties_copy]; exact Finset.mem_singleton_self _) () NC rfl (amount_copy m ρ c false)
    (by
      rw [payload_copy]; unfold copyPay ownPts xPts
      exact BI.sep_mono (Entails.of_eq (pointsTo_congr (write_own_block (xstg m ρ) c f))) (Entails.refl _))) $$ [HI Hx Hown Htok Hr]
  · isplitl [HI]; · iexact HI
    isplitl [Hx]; · iexact Hx
    isplitl [Hown]; · iexact Hown
    isplitl [Htok] <;> iassumption
  iintro Hc
  iapply Hk
  isplitr; · iexact HK
  isplitl [Hlev]; · iexact Hlev
  isplitl [HO]; · iexact HO
  isplitl [Hun]; · iexact Hun
  isplitl [Hfl]; · iexact Hfl
  isplitl [Hso]; · iexact Hso
  isplitl [Hse]; · iexact Hse
  isplitl [Hdu]; · iexact Hdu
  isplitl [Har]; · iexact Har
  isplitl [Hheld]; · iexact Hheld
  isplitl [Hbar]; · iexact Hbar
  isplitl [Hc] <;> iassumption

/-- Waiting for that copy, every transfer started. -/
theorem copy_wait {α : Type} {Q : α → sProp 𝕄} {k : PUnit.{1} → Prog (TpuEff nD τ sig (Elt F) Λ₀ .tc) α}
    {c : Dev nD} {b e : ℕ} {s : DmaSem sig} (hs : s = copyS)
    {off : Fin 2 → ℕ} {inb : ∀ a, off a + S2048x512.size a ≤ S8192x512.size a}
    {h₁ : xM.view.WordExact} {h₂ : (oM.slice (Rect.unit (s := S8192x512) off S2048x512.size inb) (fun _ => rfl)).view.WordExact}
    (h : St m ρ c (copyDone m ρ c) 24 b e ⊢ wp frame (wpE (defs₀ (F := F)) 𝒱₀ (c : Thread nD τ) none) Set.univ (k ⟨⟩) Q) :
    St m ρ c (copyFlying c) 24 b e ⊢ wp frame (wpE (defs₀ (F := F)) 𝒱₀ (c : Thread nD τ) none) Set.univ
      (.op (.waitDma2 s xM (oM.slice (Rect.unit (s := S8192x512) off S2048x512.size inb) (fun _ => rfl)) h₁ h₂) k) Q := by
  subst hs
  refine resume h ?_
  unfold St copyDone copyFlying
  iintro ⟨#HK, #Hlev, ⟨%W, HO⟩, Hun, Hfl, Hso, Hse, Hdu, Har, Hheld, Hbar, Hc, Hat⟩ Hk
  ihave Hc1 := (known_copy m ρ c) $$ HK
  unfold cellKnown
  icases Hc1 with ⟨⟨%κ, HI⟩, -⟩
  iapply (Rounds.wp_wait_rest_token 𝒱₀ ER (rounds m ρ) (c : Thread nD τ) none (κ := κ)
      (wpE_waitDma2_eq 𝒱₀ (c : Thread nD τ) none Set.univ) (Set.mem_univ _) () (O := owed c 24) (W := W) (R := 0) (m := 0) (T := ∅)
      (by rw [Nat.zero_add, expect_copy]; rfl)) $$ [HI Hc HO Hat]
  · isplitl [HI]; · iexact HI
    isplitl [Hc]; · iexact Hc
    isplitl [HO]; · iexact HO
    isplitr; · iapply (mayWait_end c _); iexact Hlev
    iexact Hat
  iintro ⟨HO, Hat, -, Hpay⟩
  ihave Hp := (Entails.of_eq (rest_copy m ρ c)) $$ Hpay
  iapply Hk
  isplitr; · iexact HK
  isplitr; · iexact Hlev
  isplitl [HO]; · iexists _; iexact HO
  isplitl [Hun]; · iexact Hun
  isplitl [Hfl]; · iexact Hfl
  isplitl [Hso]; · iexact Hso
  isplitl [Hse]; · iexact Hse
  isplitl [Hdu]; · iexact Hdu
  isplitl [Har]; · iexact Har
  isplitl [Hheld]; · iexact Hheld
  isplitl [Hbar]; · iexact Hbar
  isplitl [Hat] <;> iassumption

end Steps

end Cert.KernelIdeal.Gather

end
-- ==== Proof.KernelIdealParts.lean ====
/-
# The kernel's parts

The kernel's body is a sequence of parts. Each is run from the state its predecessor leaves: the handshake first, then
the 24 transfers and the copy, then the waits. What a part's theorem says is where the three numbers of `St` stand
before it and after it.
-/
module

public import proofs.«01_k».proof.Proof.KernelIdealSteps
public import proofs.«01_k».proof.Proof.Gen.KernelIdeal.Skeleton

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Running a stretch of the program -/

/-- Device `c`, holding `P`, runs `p`, and holds `Q` of its result when it has. -/
def Runs {α : Type} (c : Dev nD) (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q

/-- One stretch after another. -/
theorem Runs.bind {α β : Type} {c : Dev nD} {P : sProp 𝕄} {R : α → sProp 𝕄} {Q : β → sProp 𝕄}
    {p : Prog (TpuEff nD τ sig (Elt F) Λ₀ .tc) α} {k : α → Prog (TpuEff nD τ sig (Elt F) Λ₀ .tc) β}
    (h : Runs c P p R) (hk : ∀ v, Runs c (R v) (k v) Q) : Runs c P (p >>= k) Q := by
  unfold Runs at h hk ⊢
  rw [wp_bind]
  exact h.trans (wp_mono _ _ _ fun v => hk v)

/-- Nothing left to run. -/
theorem Runs.ret {α : Type} {c : Dev nD} (Q : α → sProp 𝕄) (v : α) : Runs c (Q v) (.ret v) Q := by
  unfold Runs
  rw [wp_ret]
  iintro H; imodintro; iexact H

/-- A fact among what the device holds may be used in what follows. -/
theorem Runs.of_fact {α : Type} {c : Dev nD} {φ : Prop} {P : sProp 𝕄} {Q : α → sProp 𝕄} {p : Prog (TpuEff nD τ sig (Elt F) Λ₀ .tc) α}
    (h : φ → Runs c P p Q) : Runs c iprop(⌜φ⌝ ∗ P) p Q := by
  unfold Runs at h ⊢
  iintro ⟨%hφ, H⟩
  iapply (h hφ)
  iexact H

/-! ## The handshake -/

/-- What device `c` starts from: what it knows, what it owes, the bands of its own result that its two neighbours will
    fill, the rights to signal them and to pay for every transfer, its barrier's credit, its cells at their first round
    and its own rows. -/
def Start (c : Dev nD) : sProp 𝕄 :=
  iprop(known m ρ ∗ levAts L lv ∗ (∃ W, owes (c : Thread nD τ) (O₀ c) W)
    ∗ barPay (prv c) true ∗ barPay (nxt c) false
    ∗ dutyTok ER (barCell (prv c)) 0 true ∗ dutyTok ER (barCell (nxt c)) 0 false
    ∗ cred (tallyAt (barCell c) () 2) ∗ atPos ER (barCell c) 0 ∅ 0
    ∗ bigSep (Finset.Ico 0 24) (ready m ρ c) ∗ bigSep (Finset.Ico 0 24) (sendOpen (F := F) c)
    ∗ bigSep (Finset.Ico 0 24) (due (F := F) c) ∗ copyIdle m ρ c)

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

/-- Part 1: the device tells each neighbour that its result may be written, handing over the bands that neighbour
    fills, and waits to be told so by both. -/
theorem part1 (c : Dev nD) :
    Runs c (Start m ρ c) (k0_part1 (F := F) xM (Memref.isWhole_whole _) oM (Memref.isWhole_whole _) cc0_scratch0 cc0_scratch1 cc0_scratch2)
      (fun v => iprop(⌜v.1 = c⌝ ∗ St m ρ c (copyIdle m ρ c) 0 0 0)) := by
  rw [k0_part1_eq_skeleton]; unfold k0_part1_skel Runs
  simp only [semSignalWord, semWaitWord, Prog.lift, Prog.bind_op, Prog.bind_ret, Prog.pure_eq_ret, wp_deviceId]
  unfold Start
  iintro ⟨#HK, #Hlev, ⟨%W, HO⟩, Hp1, Hp2, Ht1, Ht2, Hc, Hat, Hready, Hso, Hdu, Hcopy⟩
  ihave Hb1 := (known_bar m ρ (prv c)) $$ HK
  ihave Hb2 := (known_bar m ρ (nxt c)) $$ HK
  ihave Hb0 := (known_bar m ρ c) $$ HK
  unfold cellKnown
  icases Hb1 with ⟨⟨%κ₁, HI1⟩, Hr1⟩
  icases Hb2 with ⟨⟨%κ₂, HI2⟩, Hr2⟩
  icases Hb0 with ⟨⟨%κ₀, HI0⟩, -⟩
  simp only [dev1_eq c, dev2_eq c]
  iapply (Rounds.wp_signal 𝒱₀ ER (rounds m ρ) (c : Thread nD τ) none (dst := (prv c : Thread nD τ)) (κ := κ₁)
      (d := true) (by rw [duties_bar]; exact Finset.mem_univ _) ((amount_bar m ρ (prv c) true).trans (by decide)) () (O₁ c) rfl)
    $$ [HO Ht1 Hp1 HI1 Hr1]
  · isplitl [HI1]; · iexact HI1
    isplitl [HO]; · iexact HO
    isplitl [Ht1]; · iexact Ht1
    isplitl [Hp1]; · rw [payload_bar]; iexact Hp1
    iexact Hr1
  iintro HO
  unfold O₁
  iapply (Rounds.wp_signal 𝒱₀ ER (rounds m ρ) (c : Thread nD τ) none (dst := (nxt c : Thread nD τ)) (κ := κ₂)
      (d := false) (by rw [duties_bar]; exact Finset.mem_univ _) ((amount_bar m ρ (nxt c) false).trans (by decide)) () (owed c 0) rfl)
    $$ [HO Ht2 Hp2 HI2 Hr2]
  · isplitl [HI2]; · iexact HI2
    isplitl [HO]; · iexact HO
    isplitl [Ht2]; · iexact Ht2
    isplitl [Hp2]; · rw [payload_bar]; iexact Hp2
    iexact Hr2
  iintro HO
  iapply (Rounds.wp_wait_rest_token 𝒱₀ ER (rounds m ρ) (c : Thread nD τ) none (κ := κ₀)
      (wpE_semWait_eq 𝒱₀ (c : Thread nD τ) none Set.univ) (Set.mem_univ _) () (O := owed c 0) (W := W) (R := 0) (m := 0) (T := ∅)
      (by rw [expect_bar]; decide)) $$ [Hc HO Hat HI0]
  · isplitl [HI0]; · iexact HI0
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  rw [wp_ret]; imodintro
  isplitr; · ipureintro; rfl
  unfold St
  rw [show unsent m ρ c = fun i => iprop(ready m ρ c i ∗ landing c i) from rfl, bigSep_sep', Finset.Ico_self, bigSep_empty, bigSep_empty, bigSep_empty, bigSep_empty]
  isplitr; · iexact HK
  isplitr; · iexact Hlev
  isplitl [HO]; · iexists _; iexact HO
  isplitl [Hready Hp]; · isplitl [Hready] <;> iassumption
  isplitr; · iempintro
  isplitl [Hso]; · iexact Hso
  isplitr; · iempintro
  isplitl [Hdu]; · iexact Hdu
  isplitr; · iempintro
  isplitr; · iempintro
  isplitl [Hat]; · iexact Hat
  iexact Hcopy

/-! ## The transfers and the waits -/

/-- Part 2. It starts transfer 0. -/
theorem part2 (c : Dev nD) (v2 : BitVec 32) (v24 : BitVec 32) (v30 : BitVec 32) :
    Runs c (St m ρ c (copyIdle m ρ c) 0 0 0) (k0_part2 (F := F) xM (Memref.isWhole_whole _) oM (Memref.isWhole_whole _) cc0_scratch0 cc0_scratch1 cc0_scratch2 c v2 v24 v30) (fun _ => St m ρ c (copyIdle m ρ c) 1 0 0) := by
  rw [k0_part2_eq_skeleton]; unfold k0_part2_skel Runs
  simp only [Prog.lift, Prog.bind_op, Prog.bind_ret, Prog.pure_eq_ret]
  refine send_own m ρ 0 (by decide) (by decide) (by revert c; decide +kernel) (by exact (off_even c 0 0)) (by rfl) (by rfl) (by rfl) ?_
  exact Runs.ret (fun _ => St m ρ c (copyIdle m ρ c) 1 0 0) _

/-- Part 3. It starts transfer 1. -/
theorem part3 (c : Dev nD) (v2 : BitVec 32) (v13 : BitVec 32) (v24 : BitVec 32) (v62 : BitVec 32) :
    Runs c (St m ρ c (copyIdle m ρ c) 1 0 0) (k0_part3 (F := F) xM (Memref.isWhole_whole _) oM (Memref.isWhole_whole _) cc0_scratch0 cc0_scratch1 cc0_scratch2 c v2 v13 v24 v62) (fun _ => St m ρ c (copyIdle m ρ c) 2 0 0) := by
  rw [k0_part3_eq_skeleton]; unfold k0_part3_skel Runs
  simp only [Prog.lift, Prog.bind_op, Prog.bind_ret, Prog.pure_eq_ret]
  refine send_own m ρ 1 (by decide) (by decide) (by revert c; decide +kernel) (by exact (off_odd c 0 0)) (by rfl) (by rfl) (by rfl) ?_
  exact Runs.ret (fun _ => St m ρ c (copyIdle m ρ c) 2 0 0) _

/-- Part 4. It starts transfer 2, starts transfer 3. -/
theorem part4 (c : Dev nD) (v2 : BitVec 32) (v13 : BitVec 32) :
    Runs c (St m ρ c (copyIdle m ρ c) 2 0 0) (k0_part4 (F := F) xM (Memref.isWhole_whole _) oM (Memref.isWhole_whole _) cc0_scratch0 cc0_scratch1 cc0_scratch2 c v2 v13) (fun _ => St m ρ c (copyIdle m ρ c) 4 0 0) := by
  rw [k0_part4_eq_skeleton]; unfold k0_part4_skel Runs
  simp only [Prog.lift, Prog.bind_op, Prog.bind_ret, Prog.pure_eq_ret]
  refine send_own m ρ 2 (by decide) (by decide) (by revert c; decide +kernel) (by exact (off_even c 0 1)) (by rfl) (by rfl) (by rfl) ?_
  refine send_own m ρ 3 (by decide) (by decide) (by revert c; decide +kernel) (by exact (off_odd c 0 1)) (by rfl) (by rfl) (by rfl) ?_
  exact Runs.ret (fun _ => St m ρ c (copyIdle m ρ c) 4 0 0) _

/-- Part 5. It starts transfer 4. -/
theorem part5 (c : Dev nD) (v2 : BitVec 32) (v13 : BitVec 32) (v24 : BitVec 32) (v116 : BitVec 32) (v117 : BitVec 32) (v118 : BitVec 1) (v119 : BitVec 1) (v120 : BitVec 1) :
    Runs c (St m ρ c (copyIdle m ρ c) 4 0 0) (k0_part5 (F := F) xM (Memref.isWhole_whole _) oM (Memref.isWhole_whole _) cc0_scratch0 cc0_scratch1 cc0_scratch2 c v2 v13 v24 v116 v117 v118 v119 v120) (fun _ => St m ρ c (copyIdle m ρ c) 5 0 0) := by
  rw [k0_part5_eq_skeleton]; unfold k0_part5_skel Runs
  simp only [Prog.lift, Prog.bind_op, Prog.bind_ret, Prog.pure_eq_ret]
  refine send_own m ρ 4 (by decide) (by decide) (by revert c; decide +kernel) (by exact (off_even c 0 2)) (by rfl) (by rfl) (by rfl) ?_
  exact Runs.ret (fun _ => St m ρ c (copyIdle m ρ c) 5 0 0) _

/-- Part 6. It starts transfer 5, starts transfer 6. -/
theorem part6 (c : Dev nD) (v2 : BitVec 32) (v24 : BitVec 32) :
    Runs c (St m ρ c (copyIdle m ρ c) 5 0 0) (k0_part6 (F := F) xM (Memref.isWhole_whole _) oM (Memref.isWhole_whole _) cc0_scratch0 cc0_scratch1 cc0_scratch2 c v2 v24) (fun _ => St m ρ c (copyIdle m ρ c) 7 0 0) := by
  rw [k0_part6_eq_skeleton]; unfold k0_part6_skel Runs
  simp only [Prog.lift, Prog.bind_op, Prog.bind_ret, Prog.pure_eq_ret]
  refine send_own m ρ 5 (by decide) (by decide) (by revert c; decide +kernel) (by exact (off_odd c 0 2)) (by rfl) (by rfl) (by rfl) ?_
  refine send_own m ρ 6 (by decide) (by decide) (by revert c; decide +kernel) (by exact (off_even c 0 3)) (by rfl) (by rfl) (by rfl) ?_
  exact Runs.ret (fun _ => St m ρ c (copyIdle m ρ c) 7 0 0) _

/-- Part 7. It starts transfer 7, starts the copy of its own block. -/
theorem part7 (c : Dev nD) (v2 : BitVec 32) (v13 : BitVec 32) (v179 : BitVec 32) (v180 : BitVec 32) :
    Runs c (St m ρ c (copyIdle m ρ c) 7 0 0) (k0_part7 (F := F) xM (Memref.isWhole_whole _) oM (Memref.isWhole_whole _) cc0_scratch0 cc0_scratch1 cc0_scratch2 c v2 v13 v179 v180) (fun _ => St m ρ c (copyFlying c) 8 0 0) := by
  rw [k0_part7_eq_skeleton]; unfold k0_part7_skel Runs
  simp only [Prog.lift, Prog.bind_op, Prog.bind_ret, Prog.pure_eq_ret]
  refine send_own m ρ 7 (by decide) (by decide) (by revert c; decide +kernel) (by exact (off_odd c 0 3)) (by rfl) (by rfl) (by rfl) ?_
  refine copy_start m ρ (by exact k0_off3_eq c) (by rfl) ?_
  exact Runs.ret (fun _ => St m ρ c (copyFlying c) 8 0 0) _

/-- Part 8. It waits for incoming transfer 0, starts transfer 8. -/
theorem part8 (c : Dev nD) (v2 : BitVec 32) (v24 : BitVec 32) (v210 : BitVec 32) (v211 : BitVec 32) (c0_i32_180 : BitVec 32) :
    Runs c (St m ρ c (copyFlying c) 8 0 0) (k0_part8 (F := F) xM (Memref.isWhole_whole _) oM (Memref.isWhole_whole _) cc0_scratch0 cc0_scratch1 cc0_scratch2 c v2 v24 v210 v211 c0_i32_180) (fun _ => St m ρ c (copyFlying c) 9 1 0) := by
  rw [k0_part8_eq_skeleton]; unfold k0_part8_skel Runs
  simp only [Prog.lift, Prog.bind_op, Prog.bind_ret, Prog.pure_eq_ret]
  refine wait_recv m ρ 0 (by decide) (by decide) (by decide) (by rfl) ?_
  refine send_fwd m ρ 8 (by decide) (by decide) (by decide) (by decide) (by revert c; decide +kernel) (by exact (off_even c 1 0)) (by rfl) (by rfl) ?_
  exact Runs.ret (fun _ => St m ρ c (copyFlying c) 9 1 0) _

/-- Part 9. It waits for incoming transfer 1, starts transfer 9. -/
theorem part9 (c : Dev nD) (v2 : BitVec 32) (v13 : BitVec 32) (v239 : BitVec 32) :
    Runs c (St m ρ c (copyFlying c) 9 1 0) (k0_part9 (F := F) xM (Memref.isWhole_whole _) oM (Memref.isWhole_whole _) cc0_scratch0 cc0_scratch1 cc0_scratch2 c v2 v13 v239) (fun _ => St m ρ c (copyFlying c) 10 2 0) := by
  rw [k0_part9_eq_skeleton]; unfold k0_part9_skel Runs
  simp only [Prog.lift, Prog.bind_op, Prog.bind_ret, Prog.pure_eq_ret]
  refine wait_recv m ρ 1 (by decide) (by decide) (by decide) (by rfl) ?_
  refine send_fwd m ρ 9 (by decide) (by decide) (by decide) (by decide) (by revert c; decide +kernel) (by exact (off_odd c 1 0)) (by rfl) (by rfl) ?_
  exact Runs.ret (fun _ => St m ρ c (copyFlying c) 10 2 0) _

/-- Part 10. It waits for incoming transfer 2, starts transfer 10. -/
theorem part10 (c : Dev nD) (v2 : BitVec 32) (v24 : BitVec 32) (v260 : BitVec 32) (v261 : BitVec 32) (v262 : BitVec 1) (v265 : BitVec 1) :
    Runs c (St m ρ c (copyFlying c) 10 2 0) (k0_part10 (F := F) xM (Memref.isWhole_whole _) oM (Memref.isWhole_whole _) cc0_scratch0 cc0_scratch1 cc0_scratch2 c v2 v24 v260 v261 v262 v265) (fun _ => St m ρ c (copyFlying c) 11 3 0) := by
  rw [k0_part10_eq_skeleton]; unfold k0_part10_skel Runs
  simp only [Prog.lift, Prog.bind_op, Prog.bind_ret, Prog.pure_eq_ret]
  refine wait_recv m ρ 2 (by decide) (by decide) (by decide) (by rfl) ?_
  refine send_fwd m ρ 10 (by decide) (by decide) (by decide) (by decide) (by revert c; decide +kernel) (by exact (off_even c 1 1)) (by rfl) (by rfl) ?_
  exact Runs.ret (fun _ => St m ρ c (copyFlying c) 11 3 0) _

/-- Part 11. It waits for incoming transfer 3, starts transfer 11. -/
theorem part11 (c : Dev nD) (v2 : BitVec 32) (v13 : BitVec 32) (v289 : BitVec 32) (v290 : BitVec 32) (v291 : BitVec 1) (v292 : BitVec 1) :
    Runs c (St m ρ c (copyFlying c) 11 3 0) (k0_part11 (F := F) xM (Memref.isWhole_whole _) oM (Memref.isWhole_whole _) cc0_scratch0 cc0_scratch1 cc0_scratch2 c v2 v13 v289 v290 v291 v292) (fun _ => St m ρ c (copyFlying c) 12 4 0) := by
  rw [k0_part11_eq_skeleton]; unfold k0_part11_skel Runs
  simp only [Prog.lift, Prog.bind_op, Prog.bind_ret, Prog.pure_eq_ret]
  refine wait_recv m ρ 3 (by decide) (by decide) (by decide) (by rfl) ?_
  refine send_fwd m ρ 11 (by decide) (by decide) (by decide) (by decide) (by revert c; decide +kernel) (by exact (off_odd c 1 1)) (by rfl) (by rfl) ?_
  exact Runs.ret (fun _ => St m ρ c (copyFlying c) 12 4 0) _

/-- Part 12. It waits for incoming transfer 4, starts transfer 12. -/
theorem part12 (c : Dev nD) (v2 : BitVec 32) (v24 : BitVec 32) (v318 : BitVec 32) (v319 : BitVec 32) (c0_i32_304 : BitVec 32) :
    Runs c (St m ρ c (copyFlying c) 12 4 0) (k0_part12 (F := F) xM (Memref.isWhole_whole _) oM (Memref.isWhole_whole _) cc0_scratch0 cc0_scratch1 cc0_scratch2 c v2 v24 v318 v319 c0_i32_304) (fun _ => St m ρ c (copyFlying c) 13 5 0) := by
  rw [k0_part12_eq_skeleton]; unfold k0_part12_skel Runs
  simp only [Prog.lift, Prog.bind_op, Prog.bind_ret, Prog.pure_eq_ret]
  refine wait_recv m ρ 4 (by decide) (by decide) (by decide) (by rfl) ?_
  refine send_fwd m ρ 12 (by decide) (by decide) (by decide) (by decide) (by revert c; decide +kernel) (by exact (off_even c 1 2)) (by rfl) (by rfl) ?_
  exact Runs.ret (fun _ => St m ρ c (copyFlying c) 13 5 0) _

/-- Part 13. It waits for incoming transfer 5, starts transfer 13. -/
theorem part13 (c : Dev nD) (v2 : BitVec 32) (v13 : BitVec 32) (v345 : BitVec 32) (c4_i32_333 : BitVec 32) (v346 : BitVec 1) (c1_i32_335 : BitVec 32) :
    Runs c (St m ρ c (copyFlying c) 13 5 0) (k0_part13 (F := F) xM (Memref.isWhole_whole _) oM (Memref.isWhole_whole _) cc0_scratch0 cc0_scratch1 cc0_scratch2 c v2 v13 v345 c4_i32_333 v346 c1_i32_335) (fun _ => St m ρ c (copyFlying c) 14 6 0) := by
  rw [k0_part13_eq_skeleton]; unfold k0_part13_skel Runs
  simp only [Prog.lift, Prog.bind_op, Prog.bind_ret, Prog.pure_eq_ret]
  refine wait_recv m ρ 5 (by decide) (by decide) (by decide) (by rfl) ?_
  refine send_fwd m ρ 13 (by decide) (by decide) (by decide) (by decide) (by revert c; decide +kernel) (by exact (off_odd c 1 2)) (by rfl) (by rfl) ?_
  exact Runs.ret (fun _ => St m ρ c (copyFlying c) 14 6 0) _

/-- Part 14. It waits for incoming transfer 6, starts transfer 14. -/
theorem part14 (c : Dev nD) (v24 : BitVec 32) (v374 : BitVec 32) (c4_i32_365 : BitVec 32) :
    Runs c (St m ρ c (copyFlying c) 14 6 0) (k0_part14 (F := F) xM (Memref.isWhole_whole _) oM (Memref.isWhole_whole _) cc0_scratch0 cc0_scratch1 cc0_scratch2 c v24 v374 c4_i32_365) (fun _ => St m ρ c (copyFlying c) 15 7 0) := by
  rw [k0_part14_eq_skeleton]; unfold k0_part14_skel Runs
  simp only [Prog.lift, Prog.bind_op, Prog.bind_ret, Prog.pure_eq_ret]
  refine wait_recv m ρ 6 (by decide) (by decide) (by decide) (by rfl) ?_
  refine send_fwd m ρ 14 (by decide) (by decide) (by decide) (by decide) (by revert c; decide +kernel) (by exact (off_even c 1 3)) (by rfl) (by rfl) ?_
  exact Runs.ret (fun _ => St m ρ c (copyFlying c) 15 7 0) _

/-- Part 15. It waits for incoming transfer 7. -/
theorem part15 (c : Dev nD) (v2 : BitVec 32) (v13 : BitVec 32) :
    Runs c (St m ρ c (copyFlying c) 15 7 0) (k0_part15 (F := F) xM (Memref.isWhole_whole _) oM (Memref.isWhole_whole _) cc0_scratch0 cc0_scratch1 cc0_scratch2 c v2 v13) (fun _ => St m ρ c (copyFlying c) 15 8 0) := by
  rw [k0_part15_eq_skeleton]; unfold k0_part15_skel Runs
  simp only [Prog.lift, Prog.bind_op, Prog.bind_ret, Prog.pure_eq_ret]
  refine wait_recv m ρ 7 (by decide) (by decide) (by decide) (by rfl) ?_
  exact Runs.ret (fun _ => St m ρ c (copyFlying c) 15 8 0) _

/-- Part 16. It starts transfer 15, waits for incoming transfer 8. -/
theorem part16 (c : Dev nD) (v2 : BitVec 32) (v24 : BitVec 32) :
    Runs c (St m ρ c (copyFlying c) 15 8 0) (k0_part16 (F := F) xM (Memref.isWhole_whole _) oM (Memref.isWhole_whole _) cc0_scratch0 cc0_scratch1 cc0_scratch2 c v2 v24) (fun _ => St m ρ c (copyFlying c) 16 9 0) := by
  rw [k0_part16_eq_skeleton]; unfold k0_part16_skel Runs
  simp only [Prog.lift, Prog.bind_op, Prog.bind_ret, Prog.pure_eq_ret]
  refine send_fwd m ρ 15 (by decide) (by decide) (by decide) (by decide) (by revert c; decide +kernel) (by exact (off_odd c 1 3)) (by rfl) (by rfl) ?_
  refine wait_recv m ρ 8 (by decide) (by decide) (by decide) (by rfl) ?_
  exact Runs.ret (fun _ => St m ρ c (copyFlying c) 16 9 0) _

/-- Part 17. It starts transfer 16, waits for incoming transfer 9. -/
theorem part17 (c : Dev nD) (v2 : BitVec 32) (v13 : BitVec 32) :
    Runs c (St m ρ c (copyFlying c) 16 9 0) (k0_part17 (F := F) xM (Memref.isWhole_whole _) oM (Memref.isWhole_whole _) cc0_scratch0 cc0_scratch1 cc0_scratch2 c v2 v13) (fun _ => St m ρ c (copyFlying c) 17 10 0) := by
  rw [k0_part17_eq_skeleton]; unfold k0_part17_skel Runs
  simp only [Prog.lift, Prog.bind_op, Prog.bind_ret, Prog.pure_eq_ret]
  refine send_fwd m ρ 16 (by decide) (by decide) (by decide) (by decide) (by revert c; decide +kernel) (by exact (off_even c 2 0)) (by rfl) (by rfl) ?_
  refine wait_recv m ρ 9 (by decide) (by decide) (by decide) (by rfl) ?_
  exact Runs.ret (fun _ => St m ρ c (copyFlying c) 17 10 0) _

/-- Part 18. It starts transfer 17, waits for incoming transfer 10. -/
theorem part18 (c : Dev nD) (v2 : BitVec 32) (v24 : BitVec 32) :
    Runs c (St m ρ c (copyFlying c) 17 10 0) (k0_part18 (F := F) xM (Memref.isWhole_whole _) oM (Memref.isWhole_whole _) cc0_scratch0 cc0_scratch1 cc0_scratch2 c v2 v24) (fun _ => St m ρ c (copyFlying c) 18 11 0) := by
  rw [k0_part18_eq_skeleton]; unfold k0_part18_skel Runs
  simp only [Prog.lift, Prog.bind_op, Prog.bind_ret, Prog.pure_eq_ret]
  refine send_fwd m ρ 17 (by decide) (by decide) (by decide) (by decide) (by revert c; decide +kernel) (by exact (off_odd c 2 0)) (by rfl) (by rfl) ?_
  refine wait_recv m ρ 10 (by decide) (by decide) (by decide) (by rfl) ?_
  exact Runs.ret (fun _ => St m ρ c (copyFlying c) 18 11 0) _

/-- Part 19. It starts transfer 18, waits for incoming transfer 11. -/
theorem part19 (c : Dev nD) (v2 : BitVec 32) (v13 : BitVec 32) :
    Runs c (St m ρ c (copyFlying c) 18 11 0) (k0_part19 (F := F) xM (Memref.isWhole_whole _) oM (Memref.isWhole_whole _) cc0_scratch0 cc0_scratch1 cc0_scratch2 c v2 v13) (fun _ => St m ρ c (copyFlying c) 19 12 0) := by
  rw [k0_part19_eq_skeleton]; unfold k0_part19_skel Runs
  simp only [Prog.lift, Prog.bind_op, Prog.bind_ret, Prog.pure_eq_ret]
  refine send_fwd m ρ 18 (by decide) (by decide) (by decide) (by decide) (by revert c; decide +kernel) (by exact (off_even c 2 1)) (by rfl) (by rfl) ?_
  refine wait_recv m ρ 11 (by decide) (by decide) (by decide) (by rfl) ?_
  exact Runs.ret (fun _ => St m ρ c (copyFlying c) 19 12 0) _

/-- Part 20. It starts transfer 19, waits for incoming transfer 12. -/
theorem part20 (c : Dev nD) (v2 : BitVec 32) (v24 : BitVec 32) (v540 : BitVec 32) :
    Runs c (St m ρ c (copyFlying c) 19 12 0) (k0_part20 (F := F) xM (Memref.isWhole_whole _) oM (Memref.isWhole_whole _) cc0_scratch0 cc0_scratch1 cc0_scratch2 c v2 v24 v540) (fun _ => St m ρ c (copyFlying c) 20 13 0) := by
  rw [k0_part20_eq_skeleton]; unfold k0_part20_skel Runs
  simp only [Prog.lift, Prog.bind_op, Prog.bind_ret, Prog.pure_eq_ret]
  refine send_fwd m ρ 19 (by decide) (by decide) (by decide) (by decide) (by revert c; decide +kernel) (by exact (off_odd c 2 1)) (by rfl) (by rfl) ?_
  refine wait_recv m ρ 12 (by decide) (by decide) (by decide) (by rfl) ?_
  exact Runs.ret (fun _ => St m ρ c (copyFlying c) 20 13 0) _

/-- Part 21. It starts transfer 20, waits for incoming transfer 13. -/
theorem part21 (c : Dev nD) (v2 : BitVec 32) (v13 : BitVec 32) (v24 : BitVec 32) :
    Runs c (St m ρ c (copyFlying c) 20 13 0) (k0_part21 (F := F) xM (Memref.isWhole_whole _) oM (Memref.isWhole_whole _) cc0_scratch0 cc0_scratch1 cc0_scratch2 c v2 v13 v24) (fun _ => St m ρ c (copyFlying c) 21 14 0) := by
  rw [k0_part21_eq_skeleton]; unfold k0_part21_skel Runs
  simp only [Prog.lift, Prog.bind_op, Prog.bind_ret, Prog.pure_eq_ret]
  refine send_fwd m ρ 20 (by decide) (by decide) (by decide) (by decide) (by revert c; decide +kernel) (by exact (off_even c 2 2)) (by rfl) (by rfl) ?_
  refine wait_recv m ρ 13 (by decide) (by decide) (by decide) (by rfl) ?_
  exact Runs.ret (fun _ => St m ρ c (copyFlying c) 21 14 0) _

/-- Part 22. It starts transfer 21, waits for incoming transfer 14. -/
theorem part22 (c : Dev nD) (v2 : BitVec 32) (v13 : BitVec 32) (v24 : BitVec 32) :
    Runs c (St m ρ c (copyFlying c) 21 14 0) (k0_part22 (F := F) xM (Memref.isWhole_whole _) oM (Memref.isWhole_whole _) cc0_scratch0 cc0_scratch1 cc0_scratch2 c v2 v13 v24) (fun _ => St m ρ c (copyFlying c) 22 15 0) := by
  rw [k0_part22_eq_skeleton]; unfold k0_part22_skel Runs
  simp only [Prog.lift, Prog.bind_op, Prog.bind_ret, Prog.pure_eq_ret]
  refine send_fwd m ρ 21 (by decide) (by decide) (by decide) (by decide) (by revert c; decide +kernel) (by exact (off_odd c 2 2)) (by rfl) (by rfl) ?_
  refine wait_recv m ρ 14 (by decide) (by decide) (by decide) (by rfl) ?_
  exact Runs.ret (fun _ => St m ρ c (copyFlying c) 22 15 0) _

/-- Part 23. It starts transfer 22, waits for incoming transfer 15. -/
theorem part23 (c : Dev nD) (v2 : BitVec 32) (v13 : BitVec 32) (v24 : BitVec 32) :
    Runs c (St m ρ c (copyFlying c) 22 15 0) (k0_part23 (F := F) xM (Memref.isWhole_whole _) oM (Memref.isWhole_whole _) cc0_scratch0 cc0_scratch1 cc0_scratch2 c v2 v13 v24) (fun _ => St m ρ c (copyFlying c) 23 16 0) := by
  rw [k0_part23_eq_skeleton]; unfold k0_part23_skel Runs
  simp only [Prog.lift, Prog.bind_op, Prog.bind_ret, Prog.pure_eq_ret]
  refine send_fwd m ρ 22 (by decide) (by decide) (by decide) (by decide) (by revert c; decide +kernel) (by exact (off_even c 2 3)) (by rfl) (by rfl) ?_
  refine wait_recv m ρ 15 (by decide) (by decide) (by decide) (by rfl) ?_
  exact Runs.ret (fun _ => St m ρ c (copyFlying c) 23 16 0) _

/-- Part 24. It starts transfer 23, waits for incoming transfer 16, waits for incoming transfer 17. -/
theorem part24 (c : Dev nD) (v13 : BitVec 32) (v24 : BitVec 32) :
    Runs c (St m ρ c (copyFlying c) 23 16 0) (k0_part24 (F := F) xM (Memref.isWhole_whole _) oM (Memref.isWhole_whole _) cc0_scratch0 cc0_scratch1 cc0_scratch2 c v13 v24) (fun _ => St m ρ c (copyFlying c) 24 18 0) := by
  rw [k0_part24_eq_skeleton]; unfold k0_part24_skel Runs
  simp only [Prog.lift, Prog.bind_op, Prog.bind_ret, Prog.pure_eq_ret]
  refine send_fwd m ρ 23 (by decide) (by decide) (by decide) (by decide) (by revert c; decide +kernel) (by exact (off_odd c 2 3)) (by rfl) (by rfl) ?_
  refine wait_recv m ρ 16 (by decide) (by decide) (by decide) (by rfl) ?_
  refine wait_recv m ρ 17 (by decide) (by decide) (by decide) (by rfl) ?_
  exact Runs.ret (fun _ => St m ρ c (copyFlying c) 24 18 0) _

/-- Part 25. It waits for incoming transfer 18, waits for incoming transfer 19, waits for incoming transfer 20. -/
theorem part25 (c : Dev nD) (v13 : BitVec 32) (v24 : BitVec 32) (c1_i32_702 : BitVec 32) :
    Runs c (St m ρ c (copyFlying c) 24 18 0) (k0_part25 (F := F) xM (Memref.isWhole_whole _) oM (Memref.isWhole_whole _) cc0_scratch0 cc0_scratch1 cc0_scratch2 c v13 v24 c1_i32_702) (fun _ => St m ρ c (copyFlying c) 24 21 0) := by
  rw [k0_part25_eq_skeleton]; unfold k0_part25_skel Runs
  simp only [Prog.lift, Prog.bind_op, Prog.bind_ret, Prog.pure_eq_ret]
  refine wait_recv m ρ 18 (by decide) (by decide) (by decide) (by rfl) ?_
  refine wait_recv m ρ 19 (by decide) (by decide) (by decide) (by rfl) ?_
  refine wait_recv m ρ 20 (by decide) (by decide) (by decide) (by rfl) ?_
  exact Runs.ret (fun _ => St m ρ c (copyFlying c) 24 21 0) _

/-- Part 26. It waits for incoming transfer 21, waits for incoming transfer 22, waits for incoming transfer 23, waits for its transfer 0. -/
theorem part26 (c : Dev nD) (v13 : BitVec 32) (v24 : BitVec 32) :
    Runs c (St m ρ c (copyFlying c) 24 21 0) (k0_part26 (F := F) xM (Memref.isWhole_whole _) oM (Memref.isWhole_whole _) cc0_scratch0 cc0_scratch1 cc0_scratch2 c v13 v24) (fun _ => St m ρ c (copyFlying c) 24 24 1) := by
  rw [k0_part26_eq_skeleton]; unfold k0_part26_skel Runs
  simp only [Prog.lift, Prog.bind_op, Prog.bind_ret, Prog.pure_eq_ret]
  refine wait_recv m ρ 21 (by decide) (by decide) (by decide) (by rfl) ?_
  refine wait_recv m ρ 22 (by decide) (by decide) (by decide) (by rfl) ?_
  refine wait_recv m ρ 23 (by decide) (by decide) (by decide) (by rfl) ?_
  refine wait_send m ρ 0 (by decide) (by rfl) (by rfl) ?_
  exact Runs.ret (fun _ => St m ρ c (copyFlying c) 24 24 1) _

/-- Part 27. It waits for its transfer 1, waits for its transfer 2, waits for its transfer 3, waits for its transfer 4. -/
theorem part27 (c : Dev nD) :
    Runs c (St m ρ c (copyFlying c) 24 24 1) (k0_part27 (F := F) xM (Memref.isWhole_whole _) oM (Memref.isWhole_whole _) cc0_scratch0 cc0_scratch1 cc0_scratch2 c) (fun _ => St m ρ c (copyFlying c) 24 24 5) := by
  rw [k0_part27_eq_skeleton]; unfold k0_part27_skel Runs
  simp only [Prog.lift, Prog.bind_op, Prog.bind_ret, Prog.pure_eq_ret]
  refine wait_send m ρ 1 (by decide) (by rfl) (by rfl) ?_
  refine wait_send m ρ 2 (by decide) (by rfl) (by rfl) ?_
  refine wait_send m ρ 3 (by decide) (by rfl) (by rfl) ?_
  refine wait_send m ρ 4 (by decide) (by rfl) (by rfl) ?_
  exact Runs.ret (fun _ => St m ρ c (copyFlying c) 24 24 5) _

/-- Part 28. It waits for its transfer 5, waits for its transfer 6, waits for its transfer 7, waits for its transfer 8. -/
theorem part28 (c : Dev nD) :
    Runs c (St m ρ c (copyFlying c) 24 24 5) (k0_part28 (F := F) xM (Memref.isWhole_whole _) oM (Memref.isWhole_whole _) cc0_scratch0 cc0_scratch1 cc0_scratch2 c) (fun _ => St m ρ c (copyFlying c) 24 24 9) := by
  rw [k0_part28_eq_skeleton]; unfold k0_part28_skel Runs
  simp only [Prog.lift, Prog.bind_op, Prog.bind_ret, Prog.pure_eq_ret]
  refine wait_send m ρ 5 (by decide) (by rfl) (by rfl) ?_
  refine wait_send m ρ 6 (by decide) (by rfl) (by rfl) ?_
  refine wait_send m ρ 7 (by decide) (by rfl) (by rfl) ?_
  refine wait_send m ρ 8 (by decide) (by rfl) (by rfl) ?_
  exact Runs.ret (fun _ => St m ρ c (copyFlying c) 24 24 9) _

/-- Part 29. It waits for its transfer 9, waits for its transfer 10, waits for its transfer 11, waits for its transfer 12, waits for its transfer 13. -/
theorem part29 (c : Dev nD) :
    Runs c (St m ρ c (copyFlying c) 24 24 9) (k0_part29 (F := F) xM (Memref.isWhole_whole _) oM (Memref.isWhole_whole _) cc0_scratch0 cc0_scratch1 cc0_scratch2 c) (fun _ => St m ρ c (copyFlying c) 24 24 14) := by
  rw [k0_part29_eq_skeleton]; unfold k0_part29_skel Runs
  simp only [Prog.lift, Prog.bind_op, Prog.bind_ret, Prog.pure_eq_ret]
  refine wait_send m ρ 9 (by decide) (by rfl) (by rfl) ?_
  refine wait_send m ρ 10 (by decide) (by rfl) (by rfl) ?_
  refine wait_send m ρ 11 (by decide) (by rfl) (by rfl) ?_
  refine wait_send m ρ 12 (by decide) (by rfl) (by rfl) ?_
  refine wait_send m ρ 13 (by decide) (by rfl) (by rfl) ?_
  exact Runs.ret (fun _ => St m ρ c (copyFlying c) 24 24 14) _

/-- Part 30. It waits for its transfer 14, waits for its transfer 15, waits for its transfer 16, waits for its transfer 17. -/
theorem part30 (c : Dev nD) :
    Runs c (St m ρ c (copyFlying c) 24 24 14) (k0_part30 (F := F) xM (Memref.isWhole_whole _) oM (Memref.isWhole_whole _) cc0_scratch0 cc0_scratch1 cc0_scratch2 c) (fun _ => St m ρ c (copyFlying c) 24 24 18) := by
  rw [k0_part30_eq_skeleton]; unfold k0_part30_skel Runs
  simp only [Prog.lift, Prog.bind_op, Prog.bind_ret, Prog.pure_eq_ret]
  refine wait_send m ρ 14 (by decide) (by rfl) (by rfl) ?_
  refine wait_send m ρ 15 (by decide) (by rfl) (by rfl) ?_
  refine wait_send m ρ 16 (by decide) (by rfl) (by rfl) ?_
  refine wait_send m ρ 17 (by decide) (by rfl) (by rfl) ?_
  exact Runs.ret (fun _ => St m ρ c (copyFlying c) 24 24 18) _

/-- Part 31. It waits for its transfer 18, waits for its transfer 19, waits for its transfer 20, waits for its transfer 21. -/
theorem part31 (c : Dev nD) :
    Runs c (St m ρ c (copyFlying c) 24 24 18) (k0_part31 (F := F) xM (Memref.isWhole_whole _) oM (Memref.isWhole_whole _) cc0_scratch0 cc0_scratch1 cc0_scratch2 c) (fun _ => St m ρ c (copyFlying c) 24 24 22) := by
  rw [k0_part31_eq_skeleton]; unfold k0_part31_skel Runs
  simp only [Prog.lift, Prog.bind_op, Prog.bind_ret, Prog.pure_eq_ret]
  refine wait_send m ρ 18 (by decide) (by rfl) (by rfl) ?_
  refine wait_send m ρ 19 (by decide) (by rfl) (by rfl) ?_
  refine wait_send m ρ 20 (by decide) (by rfl) (by rfl) ?_
  refine wait_send m ρ 21 (by decide) (by rfl) (by rfl) ?_
  exact Runs.ret (fun _ => St m ρ c (copyFlying c) 24 24 22) _

/-! ## The whole body -/

/-- The kernel's body, from the start to every transfer and the copy waited for. -/
theorem body_runs (c : Dev nD) :
    Runs c (Start m ρ c) (cc0_body (F := F) xM (Memref.isWhole_whole _) oM (Memref.isWhole_whole _) cc0_scratch0 cc0_scratch1 cc0_scratch2)
      (fun _ => St m ρ c (copyDone m ρ c) 24 24 24) := by
  rw [cc0_body_eq_skeleton]; unfold cc0_body_skel
  refine (part1 m ρ c).bind ?_
  rintro ⟨d0, v2, v13, v24, v30⟩
  refine Runs.of_fact fun (hd : d0 = c) => ?_
  subst hd
  refine (part2 m ρ d0 v2 v24 v30).bind fun v62 => ?_
  refine (part3 m ρ d0 v2 v13 v24 v62).bind fun _ => ?_
  refine (part4 m ρ d0 v2 v13).bind ?_
  rintro ⟨v116, v117, v118, v119, v120⟩
  refine (part5 m ρ d0 v2 v13 v24 v116 v117 v118 v119 v120).bind fun _ => ?_
  refine (part6 m ρ d0 v2 v24).bind ?_
  rintro ⟨v179, v180⟩
  refine (part7 m ρ d0 v2 v13 v179 v180).bind ?_
  rintro ⟨v210, v211, w180⟩
  refine (part8 m ρ d0 v2 v24 v210 v211 w180).bind fun v239 => ?_
  refine (part9 m ρ d0 v2 v13 v239).bind ?_
  rintro ⟨v260, v261, v262, v265⟩
  refine (part10 m ρ d0 v2 v24 v260 v261 v262 v265).bind ?_
  rintro ⟨v289, v290, v291, v292⟩
  refine (part11 m ρ d0 v2 v13 v289 v290 v291 v292).bind ?_
  rintro ⟨v318, v319, w304⟩
  refine (part12 m ρ d0 v2 v24 v318 v319 w304).bind ?_
  rintro ⟨v345, w333, v346, w335⟩
  refine (part13 m ρ d0 v2 v13 v345 w333 v346 w335).bind ?_
  rintro ⟨v374, w365⟩
  refine (part14 m ρ d0 v24 v374 w365).bind fun _ => ?_
  refine (part15 m ρ d0 v2 v13).bind fun _ => ?_
  refine (part16 m ρ d0 v2 v24).bind fun _ => ?_
  refine (part17 m ρ d0 v2 v13).bind fun _ => ?_
  refine (part18 m ρ d0 v2 v24).bind fun _ => ?_
  refine (part19 m ρ d0 v2 v13).bind fun v540 => ?_
  refine (part20 m ρ d0 v2 v24 v540).bind fun _ => ?_
  refine (part21 m ρ d0 v2 v13 v24).bind fun _ => ?_
  refine (part22 m ρ d0 v2 v13 v24).bind fun _ => ?_
  refine (part23 m ρ d0 v2 v13 v24).bind fun _ => ?_
  refine (part24 m ρ d0 v13 v24).bind fun w702 => ?_
  refine (part25 m ρ d0 v13 v24 w702).bind fun _ => ?_
  refine (part26 m ρ d0 v13 v24).bind fun _ => ?_
  refine (part27 m ρ d0).bind fun _ => ?_
  refine (part28 m ρ d0).bind fun _ => ?_
  refine (part29 m ρ d0).bind fun _ => ?_
  refine (part30 m ρ d0).bind fun _ => ?_
  refine (part31 m ρ d0).bind fun _ => ?_
  unfold Runs
  simp only [Prog.lift, Prog.bind_op, Prog.bind_ret, Prog.pure_eq_ret]
  refine wait_send m ρ 22 (by decide) (by rfl) (by rfl) ?_
  refine wait_send m ρ 23 (by decide) (by rfl) (by rfl) ?_
  refine copy_wait m ρ (by rfl) ?_
  exact Runs.ret (fun _ => St m ρ d0 (copyDone m ρ d0) 24 24 24) _

end Cert.KernelIdeal.Gather

end
-- ==== Proof.KernelIdealEnds.lean ====
/-
# The two ends of the kernel's body

Before the body a device holds two whole buffers, its cells and its rights; `enter` cuts the buffers into the pieces the
transfers work on and arrives at `Start`. After the body it holds the pieces again, every one of them with the contents
of the gathered array; `leave` joins them, and closes every semaphore at zero.
-/
module

public import proofs.«01_k».proof.Proof.KernelIdealParts

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

/-- A device's whole argument block, in the buffer the kernel reads it from. -/
def xFull (c : Dev nD) : sProp 𝕄 := ((c : Thread nD τ).loc cc0_stg0_0) ↦{fullShare} xstg m ρ c
/-- A device's whole result buffer, holding `f`. -/
def outFull (c : Dev nD) (f : S8192x512.Idx → Elt F .f32) : sProp 𝕄 := ((c : Thread nD τ).loc cc0_stg1_0) ↦{fullShare} f

/-- Every row of the argument block is in a band. -/
theorem slab_all (y : S2048x512.Idx) :
    y ∈ (Finset.univ : Finset S2048x512.Idx) ↔ ∃ i ∈ Finset.Ico 0 8, y ∈ ((slabM (slabIx i)).view.set : Finset S2048x512.Idx) :=
  (Finset.ext_iff.mp slab_union y).symm.trans Finset.mem_biUnion

/-- A row of the result is outside the device's own block just when it is in a band some transfer fills. -/
theorem band_all (c : Dev nD) (y : S8192x512.Idx) :
    y ∈ (Finset.univ \ (ownM c).view.set : Finset S8192x512.Idx) ↔ ∃ i ∈ Finset.Ico 0 24, y ∈ ((bandM (band c i)).view.set : Finset S8192x512.Idx) :=
  (Finset.ext_iff.mp (band_union c) y).symm.trans Finset.mem_biUnion

/-- Disjoint parts of a buffer, side by side, are any part they exhaust. -/
theorem parts_join (ℓ : Loc nD τ sig) (q : PosShare TreeShare) (f : Buf (Elt F) ℓ) (S : Finset ℕ) (K : ℕ → Finset (Idx ℓ)) (T : Finset (Idx ℓ))
    (h : ∀ i ∈ S, ∀ j ∈ S, i ≠ j → Disjoint (K i) (K j)) (hT : ∀ y, y ∈ T ↔ ∃ i ∈ S, y ∈ K i) :
    bigSep S (fun i => (ℓ ↦[K i]{q} f : sProp 𝕄)) = (ℓ ↦[T]{q} f) := by
  have e : T = S.biUnion K := Finset.ext fun y => (hT y).trans Finset.mem_biUnion.symm
  rw [e]
  exact (pointsTo_biUnion S K h).symm

/-- The transfers' halves of the argument block, band by band, are its left half. -/
theorem slabs_eq (c : Dev nD) :
    bigSep (Finset.Ico 0 8) (fun i => slabPts m ρ c (slabIx i)) = (((c : Thread nD τ).loc cc0_stg0_0) ↦[Finset.univ]{fullShare.left} xstg m ρ c : sProp 𝕄) :=
  parts_join ((c : Thread nD τ).loc cc0_stg0_0) fullShare.left (xstg m ρ c) (Finset.Ico 0 8) (fun i => (slabM (slabIx i)).view.set) Finset.univ
    slab_disjoint slab_all

/-- The argument block is the copy's half and the transfers' halves. -/
theorem x_split (c : Dev nD) : xFull m ρ c ⊣⊢ iprop(bigSep (Finset.Ico 0 8) (fun i => slabPts m ρ c (slabIx i)) ∗ xPts m ρ c) := by
  rw [slabs_eq]
  unfold xFull xPts
  rw [show xM.view.set = Finset.univ from View.set_whole _]
  exact pointsTo_share (PosShare.mem_left_op_right fullShare)

/-- The bands the transfers fill are the result buffer outside the device's own block. -/
theorem bands_eq (c : Dev nD) (f : S8192x512.Idx → Elt F .f32) :
    bigSep (Finset.Ico 0 24) (fun i => bandPts c (band c i) f)
      = (((c : Thread nD τ).loc cc0_stg1_0) ↦[Finset.univ \ ((ownM c).view.set : Finset S8192x512.Idx)]{fullShare} f : sProp 𝕄) :=
  parts_join ((c : Thread nD τ).loc cc0_stg1_0) fullShare f (Finset.Ico 0 24) (fun i => (bandM (band c i)).view.set)
    (Finset.univ \ ((ownM c).view.set : Finset S8192x512.Idx)) (band_disjoint c) (band_all c)

/-- The result buffer is the device's own block and the bands the transfers fill. -/
theorem out_split (c : Dev nD) (f : S8192x512.Idx → Elt F .f32) :
    outFull c f ⊣⊢ iprop(ownPts c f ∗ bigSep (Finset.Ico 0 24) (fun i => bandPts c (band c i) f)) := by
  rw [bands_eq]
  exact pointsTo_split_subset (Finset.subset_univ _)

/-- The bands of `c`'s result, handed out: to the device before it the bands that device's forward transfers fill, to
    the device after it those its backward transfers fill. -/
theorem bands_out (c : Dev nD) (f : S8192x512.Idx → Elt F .f32) :
    bigSep (Finset.Ico 0 24) (fun i => bandPts c (band c i) f) ⊢ iprop(barPay (F := F) (prv c) true ∗ barPay (F := F) (nxt c) false) := by
  rw [← going_all]
  have h1 : bigSep (going true) (fun i => bandPts c (band c i) f) ⊢ barPay (F := F) (prv c) true :=
    bigSep_mono fun i hi => by
      have hi' : i % 2 = 0 := (Finset.mem_filter.mp hi).2.mpr rfl
      have hd : dst (prv c) i = c := by unfold dst; rw [if_pos hi', nxt_prv]
      unfold landing; rw [hd]
      exact (show bandPts c (band c i) f ⊢ iprop(∃ f, bandPts (F := F) c (band c i) f) from by iintro H; iexists f; iexact H)
  have h2 : bigSep (going false) (fun i => bandPts c (band c i) f) ⊢ barPay (F := F) (nxt c) false :=
    bigSep_mono fun i hi => by
      have hi' : ¬ i % 2 = 0 := fun h => by have := (Finset.mem_filter.mp hi).2.mp h; cases this
      have hd : dst (nxt c) i = c := by unfold dst; rw [if_neg hi', prv_nxt]
      unfold landing; rw [hd]
      exact (show bandPts c (band c i) f ⊢ iprop(∃ f, bandPts (F := F) c (band c i) f) from by iintro H; iexists f; iexact H)
  iintro ⟨Hf, Ht⟩
  isplitl [Ht]
  · iapply h1; iexact Ht
  · iapply h2; iexact Hf

/-! ## The cells of a device, all at once -/

/-- A range of naturals as a finite type. -/
theorem bigSep_range (n : ℕ) (Φ : ℕ → sProp 𝕄) : bigSep (Finset.Ico 0 n) Φ = bigSep Finset.univ (fun i : Fin n => Φ i.val) := by
  have h : Finset.Ico 0 n = Finset.univ.map (Fin.valEmbedding (n := n)) := by
    ext i
    rw [Finset.mem_Ico, Finset.mem_map]
    exact ⟨fun h => ⟨⟨i, h.2⟩, Finset.mem_univ _, rfl⟩, fun ⟨j, _, hj⟩ => hj ▸ ⟨Nat.zero_le _, j.isLt⟩⟩
  rw [h, bigSep_map]; rfl

/-- A range of naturals cut in two. -/
theorem bigSep_cut {a b c : ℕ} (hab : a ≤ b) (hbc : b ≤ c) (Φ : ℕ → sProp 𝕄) :
    bigSep (Finset.Ico a c) Φ = iprop(bigSep (Finset.Ico a b) Φ ∗ bigSep (Finset.Ico b c) Φ) := by
  rw [← Finset.Ico_union_Ico_eq_Ico hab hbc, bigSep_union (Finset.Ico_disjoint_Ico_consecutive a b c)]
  rfl

/-- A range of naturals moved down by eight. -/
theorem bigSep_down (Φ : ℕ → sProp 𝕄) : bigSep (Finset.Ico 8 24) (fun i => Φ (i - 8)) = bigSep (Finset.Ico 0 16) Φ := by
  have h : Finset.Ico 8 24 = (Finset.Ico 0 16).map (addRightEmbedding 8) := by decide
  rw [h, bigSep_map]
  exact bigSep_congr fun i _ => by show Φ (i + 8 - 8) = Φ i; rw [Nat.add_sub_cancel]

/-- A cell of a device is its barrier's, its copy's, or the send or receive cell of one of the 24 transfers. -/
def cellIx : (Unit ⊕ Unit) ⊕ (Fin 24 ⊕ Fin 24) → Fin 50
  | .inl (.inl _) => 0
  | .inl (.inr _) => 49
  | .inr (.inl i) => sendK i.val
  | .inr (.inr i) => recvK i.val

theorem cellIx_bijective : Function.Bijective cellIx := by decide +kernel

/-- What is said of every cell of a device, said by kind of cell. -/
theorem bigSep_cells (c : Dev nD) (Φ : GSem nD τ sig → sProp 𝕄) :
    bigSep Finset.univ (fun k : Fin 50 => Φ (kcell (c, k)))
      = iprop((Φ (barCell c) ∗ Φ (copyCell c)) ∗ bigSep (Finset.Ico 0 24) (fun i => Φ (sendCell c i)) ∗ bigSep (Finset.Ico 0 24) (fun i => Φ (recvCell c i))) := by
  rw [bigSep_univ_equiv (Equiv.ofBijective _ cellIx_bijective), bigSep_univ_sum, bigSep_univ_sum, bigSep_univ_sum,
    bigSep_range 24 (fun i => Φ (sendCell c i)), bigSep_range 24 (fun i => Φ (recvCell c i)),
    bigSep_congr (s := Finset.univ) (fun (i : Fin 24) _ => congrArg Φ (kcell_send c i.val).symm),
    bigSep_congr (s := Finset.univ) (fun (i : Fin 24) _ => congrArg Φ (kcell_recv c i.val).symm),
    Finset.univ_unique, bigSep_singleton, bigSep_singleton, ← kcell_copy]
  rfl

/-! ## Entering -/

/-- The rights to pay for what device `c` pays for: a unit on each neighbour's barrier, its 24 transfers' two credits
    each, its copy's credit. -/
def payToks (c : Dev nD) : sProp 𝕄 :=
  iprop((dutyTok ER (barCell (prv c)) 0 true ∗ dutyTok ER (barCell (nxt c)) 0 false)
    ∗ bigSep (Finset.Ico 0 24) (fun i => iprop(dutyTok ER (sendCell c i) 0 false ∗ dutyTok ER (recvCell (dst c i) i) 0 false))
    ∗ dutyTok ER (copyCell c) 0 false)

/-- What the set-up gives device `c`: what everyone knows, its cells at their first round, and those rights. -/
def ghost (c : Dev nD) : sProp 𝕄 :=
  iprop(known m ρ ∗ (bigSep Finset.univ fun k : Fin 50 => atPos ER (kcell (c, k)) 0 ∅ 0) ∗ payToks c)

/-- What device `c` holds beside its two buffers when the kernel begins. -/
def start (c : Dev nD) : sProp 𝕄 :=
  iprop(ghost m ρ c ∗ cred (tallyAt (barCell c) () 2) ∗ bigSep (Finset.Ico 0 24) (fun i => cred (tallyAt (recvCell c i) () N)) ∗ levAts L lv)

/-- With two whole buffers and what it owes, that is where the handshake starts. -/
theorem enter (c : Dev nD) (f : S8192x512.Idx → Elt F .f32) (W : Waits sig Unit) :
    iprop(start m ρ c ∗ owes (c : Thread nD τ) (O₀ c) W ∗ xFull m ρ c ∗ outFull c f) ⊢ Start m ρ c := by
  unfold start ghost payToks Start
  rw [bigSep_cells c (fun g => atPos ER g 0 ∅ 0)]
  have hr : bigSep (Finset.Ico 0 24) (ready m ρ c)
      = iprop(bigSep (Finset.Ico 0 24) (fun i => iprop(dutyTok ER (sendCell c i) 0 false ∗ dutyTok ER (recvCell (dst c i) i) 0 false))
          ∗ bigSep (Finset.Ico 0 8) (fun i => slabPts m ρ c (slabIx i))) := by
    have hs : bigSep (Finset.Ico 0 24) (slabOf m ρ c) = bigSep (Finset.Ico 0 8) (fun i => slabPts m ρ c (slabIx i)) := by
      rw [bigSep_cut (show 0 ≤ 8 by decide) (show 8 ≤ 24 by decide),
        bigSep_congr (s := Finset.Ico 0 8) (Ψ := fun i => slabPts m ρ c (slabIx i)) (fun i hi => by unfold slabOf; rw [if_pos (Finset.mem_Ico.mp hi).2]),
        bigSep_congr (s := Finset.Ico 8 24) (Ψ := fun _ => (BI.emp : sProp 𝕄)) (fun i hi => by unfold slabOf; rw [if_neg (Nat.not_lt.mpr (Finset.mem_Ico.mp hi).1)]; rfl),
        bigSep_emp_const]
      exact equiv_iff.mp BI.sep_emp
    rw [← hs, ← bigSep_sep']
    exact bigSep_congr fun i _ => equiv_iff.mp ⟨BI.sep_assoc', BI.sep_assoc⟩
  have hd : bigSep (Finset.Ico 0 24) (due (F := F) c)
      = iprop(bigSep (Finset.Ico 0 24) (fun i => atPos ER (recvCell c i) 0 ∅ 0) ∗ bigSep (Finset.Ico 0 24) (fun i => cred (tallyAt (recvCell c i) () N))) :=
    bigSep_sep' _ _ _
  rw [hr, hd]
  unfold copyIdle
  iintro ⟨⟨⟨#HK, ⟨⟨Hb, Hcp⟩, Hsend, Hrecv⟩, ⟨Ht1, Ht2⟩, Htok, Htc⟩, Hc, Hcr, Hlev⟩, HO, Hx, Hout⟩
  ihave Hx := (x_split m ρ c).1 $$ Hx
  icases Hx with ⟨Hsl, Hx⟩
  ihave Hout := (out_split c f).1 $$ Hout
  icases Hout with ⟨Hown, Hbands⟩
  ihave Hbands := (bands_out c f) $$ Hbands
  icases Hbands with ⟨Hp1, Hp2⟩
  isplitr; · iexact HK
  isplitl [Hlev]; · iexact Hlev
  isplitl [HO]; · iexists W; iexact HO
  isplitl [Hp1]; · iexact Hp1
  isplitl [Hp2]; · iexact Hp2
  isplitl [Ht1]; · iexact Ht1
  isplitl [Ht2]; · iexact Ht2
  isplitl [Hc]; · iexact Hc
  isplitl [Hb]; · iexact Hb
  isplitl [Htok Hsl]; · isplitl [Htok] <;> iassumption
  isplitl [Hsend]; · iexact Hsend
  isplitl [Hrecv Hcr]; · isplitl [Hrecv] <;> iassumption
  isplitl [Htc]; · iexact Htc
  isplitl [Hcp]; · iexact Hcp
  isplitl [Hx]; · iexact Hx
  iexists f; iexact Hown

/-! ## Leaving -/

/-- A cell past its round closes, its counter at zero. -/
theorem close_cell (g : GSem nD τ sig) : iprop(cellKnown m ρ g ∗ atPos ER g 1 ∅ 0) ⊢ (|={Set.univ}=> semVal g 0 : sProp 𝕄) := by
  unfold cellKnown
  iintro ⟨⟨⟨%κ, HI⟩, -⟩, Hat⟩
  iapply (Rounds.cell_close ER (rounds m ρ) (Set.mem_univ κ) (fun h => h) (R := 1) (duties_later m ρ g))
  isplitl [HI] <;> iassumption

/-- So do all cells of a device. -/
theorem close_cells (c : Dev nD) :
    iprop(known m ρ ∗ bigSep Finset.univ fun k : Fin 50 => atPos ER (kcell (c, k)) 1 ∅ 0)
      ⊢ (|={Set.univ}=> bigSep Finset.univ fun k : Fin 50 => semVal (kcell (c, k)) 0 : sProp 𝕄) :=
  (BI.bigSep_with_persistent fun k _ => (sep_mono_left (known_cell m ρ (c, k))).trans (close_cell m ρ (kcell (c, k)))).trans (bigSep_fupd _ _)

/-- When every transfer and the copy have been waited for, the device holds its argument block again and the gathered
    array, owes nothing, and closes its semaphores at zero. -/
theorem leave (c : Dev nD) :
    St m ρ c (copyDone m ρ c) 24 24 24
      ⊢ |={Set.univ}=> iprop((bigSep Finset.univ fun k : Fin 50 => semVal (kcell (c, k)) 0) ∗ (∃ W, owes (c : Thread nD τ) 0 W)
          ∗ xFull m ρ c ∗ outFull c (gath m ρ)) := by
  have hs : bigSep (Finset.Ico 0 24) (sent m ρ c)
      = iprop(bigSep (Finset.Ico 0 24) (fun i => atPos ER (sendCell c i) 1 ∅ 0) ∗ bigSep (Finset.Ico 0 8) (fun i => slabPts m ρ c (slabIx i))
          ∗ bigSep (Finset.Ico 0 16) (recvPay m ρ c)) := by
    rw [show sent m ρ c = fun i => iprop(atPos ER (sendCell c i) 1 ∅ 0 ∗ sendPay m ρ c i) from rfl, bigSep_sep',
      bigSep_cut (show 0 ≤ 8 by decide) (show 8 ≤ 24 by decide) (sendPay m ρ c),
      bigSep_congr (s := Finset.Ico 0 8) (Ψ := fun i => slabPts m ρ c (slabIx i)) (fun i hi => by unfold sendPay; rw [if_pos (Finset.mem_Ico.mp hi).2]),
      bigSep_congr (s := Finset.Ico 8 24) (Ψ := fun i => recvPay m ρ c (i - 8)) (fun i hi => by unfold sendPay recvPay; rw [if_neg (Nat.not_lt.mpr (Finset.mem_Ico.mp hi).1)]),
      bigSep_down]
  unfold St copyDone copyPay
  rw [hs, owed_end]
  iintro ⟨#HK, -, HO, -, -, -, ⟨Hs, Hsl, Hlow⟩, -, Hr, Hhigh, Hb, Hc, Hown, Hx⟩
  imod (close_cells m ρ c) $$ [Hs Hr Hb Hc] with Hz
  · isplitr; · iexact HK
    rw [bigSep_cells c (fun g => atPos ER g 1 ∅ 0)]
    isplitl [Hb Hc]; · isplitl [Hb] <;> iassumption
    isplitl [Hs]; · iexact Hs
    iexact Hr
  imodintro
  isplitl [Hz]; · iexact Hz
  isplitl [HO]; · iexact HO
  isplitl [Hsl Hx]
  · iapply (x_split m ρ c).2; isplitl [Hsl] <;> iassumption
  iapply (out_split c (gath m ρ)).2
  isplitl [Hown]; · iexact Hown
  rw [show bigSep (Finset.Ico 0 24) (fun i => bandPts c (band c i) (gath m ρ)) = bigSep (Finset.Ico 0 24) (recvPay m ρ c) from rfl,
    bigSep_cut (show 0 ≤ 16 by decide) (show 16 ≤ 24 by decide) (recvPay m ρ c)]
  isplitl [Hlow] <;> iassumption

end Cert.KernelIdeal.Gather

end
-- ==== Proof.KernelIdealRun.lean ====
/-
# The launch and the run

The body's two ends meet the pipeline here: what the pipeline hands the body on entry, what it takes back, and what the
set-up deals to each device before any of them starts. Every device's 50 cells are set up at once, since neighbours pay
to one another's; the rights to pay are minted with the cell they pay to and then moved to the device that pays, and the
credits a device waits with are what all the devices together owe its cells. The run's theorem, `run_main`, says how
every execution ends: each device's argument block unchanged (`finalA_x`), its result the gathered array (`finalA_o`)
and every semaphore counter at zero.
-/
module

public import proofs.«01_k».proof.Proof.KernelIdealEnds
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline calls it -/

/-- Every semaphore of a device the kernel used, back at zero. -/
def zeros (c : Dev nD) : sProp 𝕄 := bigSep Finset.univ fun k : Fin 50 => semVal (kcell (c, k)) 0

/-- The pipeline's account of device `c`: it stages the argument block, takes the gathered array away, and the device
    owes `O₀ c` before the body and nothing after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ
  Φ t := match t with
    | ⟨0, _⟩ => start m ρ c
    | ⟨_ + 1, _⟩ => zeros c
  q _ := fullShare
  owed t := match t with
    | ⟨0, _⟩ => O₀ c
    | ⟨_ + 1, _⟩ => 0

/-- A staging buffer of device `c`, whole, holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the pipeline hands the body. -/
def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it takes back. -/
def bodyPost (c : Dev nD) : sProp 𝕄 :=
  iprop(zeros c ∗ (dats m ρ 0 c).owesAt () t0_0.succ ∗ stg c cc0_stg0_0 (xstg m ρ c) ∗ stg c cc0_stg1_0 (gath m ρ))

/-- The staged argument is the device's argument block. -/
theorem before_x (c : Dev nD) (d) : (dats m ρ 0 c).before (0 : Fin 2) t0_0 d = xstg m ρ c := by
  unfold Dat.before; rw [if_pos (fetch0_0 t0_0)]; rfl

/-- From what the pipeline hands over, the handshake can start. -/
theorem bodyPre_enter (c : Dev nD) : bodyPre m ρ c ⊢ Start m ρ c := by
  unfold bodyPre Dat.owesAt Pipeline.owesWithin
  iintro ⟨Hs, ⟨%W, -, HO⟩, ⟨%d0, %g0, %h0, Hx⟩, ⟨%d1, %g1, %h1, Hout⟩⟩
  rw [before_x m ρ c d0] at h0
  subst h0
  iapply (enter m ρ c g1 W)
  isplitl [Hs]; · iexact Hs
  isplitl [HO]; · rw [show (dats m ρ 0 c).owed t0_0.castSucc = O₀ c from rfl]; iexact HO
  isplitl [Hx]; · unfold xFull; iexact Hx
  unfold outFull; iexact Hout

/-- What the body ends with is what the pipeline takes. -/
theorem bodyPost_leave (c : Dev nD) : St m ρ c (copyDone m ρ c) 24 24 24 ⊢ (|={Set.univ}=> bodyPost m ρ c : sProp 𝕄) := by
  refine (leave m ρ c).trans (BI.fupd_mono ?_)
  unfold bodyPost zeros Dat.owesAt Pipeline.owesWithin
  rw [show (dats m ρ 0 c).owed t0_0.succ = 0 from rfl]
  iintro ⟨Hz, ⟨%W, HO⟩, Hx, Hout⟩
  isplitl [Hz]; · iexact Hz
  isplitl [HO]
  · iexists W
    isplitr; · ipureintro; exact fun _ _ => Or.inl trivial
    iexact HO
  isplitl [Hx]
  · iexists (xstg m ρ c)
    isplitr; · (ipureintro; rfl)
    unfold xFull; iexact Hx
  iexists (gath m ρ)
  isplitr; · (ipureintro; rfl)
  unfold outFull; iexact Hout

/-- The body takes the one to the other. -/
theorem body_wp (c : Dev nD) :
    Runs c (bodyPre m ρ c) (cc0_body (F := F) xM (Memref.isWhole_whole _) oM (Memref.isWhole_whole _) cc0_scratch0 cc0_scratch1 cc0_scratch2)
      (fun _ => bodyPost m ρ c) := by
  have h := (bodyPre_enter m ρ c).trans (body_runs m ρ c)
  generalize cc0_body (F := F) xM (Memref.isWhole_whole _) oM (Memref.isWhole_whole _) cc0_scratch0 cc0_scratch1 cc0_scratch2 = p at h ⊢
  exact h.trans ((wp_mono _ _ _ fun _ => bodyPost_leave m ρ c).trans (wp_fupd _ _ _ _ _))

set_option maxRecDepth 16000 in
/-- The body keeps its part of the account. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2) (fun _ => bodyPost m ρ c)
  exact body_wp m ρ c

/-! ## The semaphores -/

/-- The kernel's own semaphores: 24 send, 24 receive, and the copy's. -/
abbrev osem (k : Fin 49) : SemLoc sig := .dma ⟨k.val + 2, show k.val + 2 < 51 by omega⟩

theorem ownSemFacts : Pipeline.OwnSemFacts cfg0.spec osem := by decide +kernel

theorem share_eq (c : Dev nD) (w : Fin cfg0.W) : (dats m ρ 0 c).share w = fullShare := by unfold Dat.share; split <;> rfl

/-- A cell of a device is its barrier's or one of its own. -/
def ownIx : Unit ⊕ Fin 49 → Fin 50
  | .inl _ => 0
  | .inr k => k.succ

theorem ownIx_bijective : Function.Bijective ownIx := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The barrier's semaphore and the kernel's own are the cells. -/
theorem zeros_eq (c : Dev nD) :
    zeros c = iprop(unscopedSems0 c ∗ (Pipeline.ownSems0 (Ix := Unit) (Name := ℕ) (U := UU) (Lvl := ℕ) (Val := Elt F) (τ := τ) osem c : sProp 𝕄)) := by
  have h : ∀ k : Fin 49, kcell (c, k.succ) = ((c : Thread nD τ), osem k) := fun k => Prod.ext rfl (csem_dma k.succ (Nat.succ_ne_zero _))
  rw [unscopedSems0_eq]
  unfold zeros Pipeline.ownSems0
  rw [bigSep_univ_equiv (Equiv.ofBijective _ ownIx_bijective), bigSep_univ_sum, Finset.univ_unique, bigSep_singleton,
    bigSep_congr (s := Finset.univ) (fun (k : Fin 49) _ => congrArg (fun g => (semVal g 0 : sProp 𝕄)) (h k).symm)]
  rfl

/-! ## What is minted -/

theorem csem_injective : Function.Injective csem := by
  intro k k' h
  by_cases hk : k.val = 0 <;> by_cases hk' : k'.val = 0
  · exact Fin.ext (hk.trans hk'.symm)
  · rw [csem_dma k' hk'] at h; unfold csem at h; rw [if_pos hk] at h; cases h
  · rw [csem_dma k hk] at h; unfold csem at h; rw [if_pos hk'] at h; cases h
  · rw [csem_dma k hk, csem_dma k' hk'] at h
    have h' : k.val + 1 = k'.val + 1 := congrArg Fin.val (SemLoc.dma.inj h)
    exact Fin.ext (Nat.succ.inj h')

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The rights to pay to a device's own cells: one for each cell, and a second one for the barrier's. -/
def tokOf : Dev nD × (Unit ⊕ Fin 50) → GSem nD τ sig × ℕ × Bool
  | (c, .inl _) => (barCell c, 0, true)
  | (c, .inr k) => (kcell (c, k), 0, false)

theorem tokOf_injective : Function.Injective tokOf := by
  rintro ⟨c, _ | k⟩ ⟨c', _ | k'⟩ h
  · have h1 : c = c' := congrArg (fun x : GSem nD τ sig × ℕ × Bool => x.1.1.1) h
    rw [h1]
  · exact absurd (show true = false from congrArg (fun x : GSem nD τ sig × ℕ × Bool => x.2.2) h) (by decide)
  · exact absurd (show false = true from congrArg (fun x : GSem nD τ sig × ℕ × Bool => x.2.2) h) (by decide)
  · have h1 : (c, k) = (c', k') := kcell_injective (congrArg Prod.fst h)
    rw [(Prod.mk.inj h1).1, (Prod.mk.inj h1).2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The rights to pay to device `c`'s own cells. -/
def toks (c : Dev nD) : sProp 𝕄 :=
  iprop(dutyTok ER (barCell c) 0 true ∗ bigSep Finset.univ fun k : Fin 50 => dutyTok ER (kcell (c, k)) 0 false)

/-- What is minted for device `c`. -/
def G (c : Dev nD) : sProp 𝕄 :=
  iprop((bigSep Finset.univ fun k : Fin 50 => roundState ER (rounds m ρ) (kcell (c, k)) 0)
    ∗ (bigSep Finset.univ fun k : Fin 50 => reached ER (kcell (c, k)) 0)
    ∗ (bigSep Finset.univ fun k : Fin 50 => atPos ER (kcell (c, k)) 0 ∅ 0) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 50 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, Finset.univ_unique, bigSep_singleton]; rfl
  iintro HX
  imod (Rounds.fund ER (rounds m ρ) ringCells ringToks) $$ HX with ⟨Hst, Hr, Hat, Htok⟩
  imodintro
  ihave Hst := (Entails.of_eq (hX fun g => roundState ER (rounds m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-! ## The cells set up -/

/-- A cell's counter at zero and its record make its invariant. -/
theorem cells_alloc (c : Dev nD) :
    iprop(zeros c ∗ bigSep Finset.univ fun k : Fin 50 => roundState ER (rounds m ρ) (kcell (c, k)) 0)
      ⊢ (|={Set.univ}=> bigSep Finset.univ fun k : Fin 50 => iprop(∃ κ : ℕ, cellInv ER (rounds m ρ) κ (kcell (c, k))) : sProp 𝕄) := by
  unfold zeros
  rw [← bigSep_sep']
  exact (bigSep_mono fun k _ => (Rounds.body_intro ER (rounds m ρ) (kcell (c, k))).trans inv_alloc).trans (bigSep_fupd _ _)

/-- Device `c`'s part of the set-up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 50 => cellKnown m ρ (kcell (c, k)))
          ∗ (bigSep Finset.univ fun k : Fin 50 => atPos ER (kcell (c, k)) 0 ∅ 0) ∗ toks c) := by
  unfold G cellKnown
  rw [bigSep_sep']
  iintro ⟨Hos, Hus, Hst, Hr, Hat, Htok⟩
  imod (cells_alloc m ρ c) $$ [Hos Hus Hst] with Hinv
  · isplitl [Hos Hus]
    · rw [zeros_eq]; isplitl [Hus] <;> iassumption
    iexact Hst
  imodintro
  isplitl [Hinv Hr]; · isplitl [Hinv] <;> iassumption
  isplitl [Hat]; · iexact Hat
  iexact Htok

/-- Transfers by the device they go to: every transfer goes to one device, and every device gets one of each number. -/
def arrivals : Dev nD × Fin 24 ≃ Dev nD × Fin 24 where
  toFun p := (dstEquiv p.2.val p.1, p.2)
  invFun p := ((dstEquiv p.2.val).symm p.1, p.2)
  left_inv p := Prod.ext ((dstEquiv p.2.val).symm_apply_apply p.1) rfl
  right_inv p := Prod.ext ((dstEquiv p.2.val).apply_symm_apply p.1) rfl

/-- What is said of every device's receive cells, said transfer by transfer of the sending devices. -/
theorem recv_around (Φ : GSem nD τ sig → sProp 𝕄) :
    (bigSep Finset.univ fun c : Dev nD => bigSep (Finset.Ico 0 24) fun i => Φ (recvCell c i))
      = bigSep Finset.univ fun c : Dev nD => bigSep (Finset.Ico 0 24) fun i => Φ (recvCell (dst c i) i) := by
  simp only [bigSep_range]
  rw [← bigSep_univ_prod (fun p : Dev nD × Fin 24 => Φ (recvCell p.1 p.2.val)), bigSep_univ_equiv arrivals,
    ← bigSep_univ_prod (fun p : Dev nD × Fin 24 => Φ (recvCell (dst p.1 p.2.val) p.2.val))]
  exact bigSep_congr fun p _ => by
    show Φ (recvCell (dstEquiv p.2.val p.1) p.2.val) = _
    rw [dstEquiv_apply]

/-- The rights moved to the devices that pay. -/
theorem toks_around : (bigSep Finset.univ fun c : Dev nD => (toks c : sProp 𝕄)) ⊢ bigSep Finset.univ fun c : Dev nD => payToks c := by
  unfold toks payToks
  simp only [bigSep_cells _ (fun g => (dutyTok ER g 0 false : sProp 𝕄)), bigSep_sep']
  rw [recv_around (fun g => (dutyTok ER g 0 false : sProp 𝕄)),
    bigSep_univ_equiv stepEquiv (fun c : Dev nD => (dutyTok ER (barCell c) 0 false : sProp 𝕄)),
    bigSep_univ_equiv stepEquiv.symm (fun c : Dev nD => (dutyTok ER (barCell c) 0 true : sProp 𝕄))]
  iintro ⟨Ht, ⟨Hf, Hc⟩, Hs, Hr⟩
  isplitl [Ht Hf]
  · isplitl [Ht]; · iexact Ht
    iexact Hf
  isplitl [Hs Hr]
  · isplitl [Hs]; · iexact Hs
    iexact Hr
  iexact Hc

/-- The devices' parts together are what each of them starts with. -/
theorem regroup :
    (bigSep Finset.univ fun c : Dev nD => iprop((bigSep Finset.univ fun k : Fin 50 => cellKnown m ρ (kcell (c, k)))
          ∗ (bigSep Finset.univ fun k : Fin 50 => atPos ER (kcell (c, k)) 0 ∅ 0) ∗ toks c) : sProp 𝕄)
      ⊢ bigSep Finset.univ (ghost m ρ) := by
  rw [bigSep_sep', bigSep_sep', ← bigSep_univ_prod (fun ck : Dev nD × Fin 50 => cellKnown m ρ (kcell ck))]
  iintro ⟨#HK, Hat, Htok⟩
  ihave Htok := (toks_around (F := F)) $$ Htok
  iapply (BI.bigSep_with_persistent (R := known m ρ)
    (Φ := fun c : Dev nD => iprop((bigSep Finset.univ fun k : Fin 50 => atPos ER (kcell (c, k)) 0 ∅ 0) ∗ payToks c)) (Ψ := ghost m ρ)
    fun c _ => Entails.of_eq rfl)
  isplitr; · unfold known; iexact HK
  rw [bigSep_sep']
  isplitl [Hat]; · iexact Hat
  iexact Htok

/-- The set-up of all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credits -/

theorem bar_inj {a b : Dev nD} (h : barCell a = barCell b) : a = b := congrArg (fun g : GSem nD τ sig => g.1.1) h
theorem bar_ne_recv (a b : Dev nD) (i : ℕ) : barCell a ≠ recvCell b i := fun h => by
  have h' : SemLoc.reg barS = (SemLoc.dma (recvS i) : SemLoc sig) := congrArg Prod.snd h
  cases h'

/-- What device `d` owes device `c`'s barrier cell: a unit if `c` is the one before it, a unit if `c` is the one after. -/
theorem owed_bar (d c : Dev nD) : O₀ d (barCell c) () = (if d = prv c then 1 else 0) + (if d = nxt c then 1 else 0) := by
  have h0 : owed d 0 (barCell c) () = 0 := by
    by_contra h
    obtain ⟨i, -, -, h'⟩ := owed_pos (Nat.pos_of_ne_zero h)
    exact bar_ne_recv _ _ _ h'
  have h1 : tallyAt (barCell (nxt d)) () 1 (barCell c) () = if d = prv c then 1 else 0 := by
    rw [tallyAt_apply]
    by_cases h : d = prv c
    · rw [if_pos h, if_pos ⟨by rw [h, nxt_prv], rfl⟩]
    · rw [if_neg h, if_neg fun h' => h (by rw [bar_inj h'.1, prv_nxt])]
  have h2 : tallyAt (barCell (prv d)) () 1 (barCell c) () = if d = nxt c then 1 else 0 := by
    rw [tallyAt_apply]
    by_cases h : d = nxt c
    · rw [if_pos h, if_pos ⟨by rw [h, prv_nxt], rfl⟩]
    · rw [if_neg h, if_neg fun h' => h (by rw [bar_inj h'.1, nxt_prv])]
  unfold O₀ O₁
  rw [Pi.add_apply, Finsupp.add_apply, Pi.add_apply, Finsupp.add_apply, h0, h1, h2, Nat.zero_add]

/-- What device `d` owes device `c`'s receive cell of transfer `i`: the transfer's credit, if `d` sends it. -/
theorem owed_recv (d c : Dev nD) (i : ℕ) (hi : i < 24) : O₀ d (recvCell c i) () = if d = (dstEquiv i).symm c then N else 0 := by
  have h0 : owed d 0 (recvCell c i) () = if d = (dstEquiv i).symm c then N else 0 := by
    unfold owed
    rw [Finset.sum_apply, Finsupp.finset_sum_apply, Finset.sum_eq_single i]
    · rw [tallyAt_apply]
      by_cases h : d = (dstEquiv i).symm c
      · rw [if_pos h, if_pos ⟨by rw [h, ← dstEquiv_apply, Equiv.apply_symm_apply], rfl⟩]
      · refine (if_neg fun h' => h ?_).trans (if_neg h).symm
        rw [show c = dst d i from congrArg (fun g : GSem nD τ sig => g.1.1) h'.1, ← dstEquiv_apply, Equiv.symm_apply_apply]
    · intro j hj hne
      rw [tallyAt_apply]
      refine if_neg fun h' => hne ?_
      exact recvS_inj j (Finset.mem_Ico.mp hj).2 i hi (SemLoc.dma.inj (congrArg Prod.snd h'.1)).symm
    · exact fun h => absurd (Finset.mem_Ico.mpr ⟨Nat.zero_le _, hi⟩) h
  have h1 (a : Dev nD) : tallyAt (barCell a) () 1 (recvCell c i) () = 0 := by
    rw [tallyAt_apply]; exact if_neg fun h => bar_ne_recv _ _ _ h.1.symm
  unfold O₀ O₁
  rw [Pi.add_apply, Finsupp.add_apply, Pi.add_apply, Finsupp.add_apply, h0, h1, h1]
  rfl

/-- The devices together owe a barrier cell two units; -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- and a receive cell its transfer's credit. -/
theorem launch_recv (c : Dev nD) (i : ℕ) (hi : i < 24) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i hi,
    Finset.sum_ite_eq' Finset.univ ((dstEquiv i).symm c) fun _ => N, if_pos (Finset.mem_univ _)]

/-- The receive semaphores, by transfer. -/
def recvLoc : Fin 24 ↪ SemLoc sig :=
  ⟨fun i => .dma (recvS i.val), fun i j h => Fin.ext (recvS_inj i.val i.isLt j.val j.isLt (SemLoc.dma.inj h))⟩

/-- So each device waits with these. -/
theorem creds (c : Dev nD) :
    (Pipeline.launchCred O₀ c : sProp 𝕄)
      ⊢ iprop(cred (tallyAt (barCell c) () 2) ∗ bigSep (Finset.Ico 0 24) (fun i => cred (tallyAt (recvCell c i) () N))) := by
  have hsub : Finset.univ.map recvLoc ⊆ Finset.univ.erase (SemLoc.reg barS : SemLoc sig) := fun x hx => by
    obtain ⟨i, -, rfl⟩ := Finset.mem_map.mp hx
    exact Finset.mem_erase.mpr ⟨(fun h => by cases h), Finset.mem_univ _⟩
  unfold Pipeline.launchCred
  rw [bigSep_univ_at _ (SemLoc.reg barS), launch_bar, bigSep_range]
  refine sep_mono_right ((bigSep_subset hsub).trans ?_)
  rw [bigSep_map]
  exact bigSep_mono fun i _ => Entails.of_eq (congrArg (fun t => (cred t : sProp 𝕄)) (launch_recv c i.val i.isLt))

/-! ## What the run's theorem asks for -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, zeros_eq]
  iintro ⟨Hb, Ho⟩
  isplitl [Hb]; · iexact Hb
  isplitl [Ho]; · iexact Ho
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

/-- Every device's two arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with every counter at zero: every weakly fair execution of the
    four kernels terminates, and every final state has the arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds what it held. -/
theorem finalA_x (c : Dev nD) : finalA m ρ c (0 : Fin 2) = m ((c : Thread nD τ).loc main_arg0) :=
  (dats (F := F) m ρ 0 c).arrAt_in (0 : Fin 2) rfl _

/-- The staged argument block is the argument array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array holds the gathered array. -/
theorem finalA_o (c : Dev nD) : finalA m ρ c (1 : Fin 2) = gath m ρ := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m ρ c (1 : Fin 2))
  refine hr.symm.trans ?_
  unfold finalA
  rw [show cfg0.N = ((0 : Fin 1) : Fin cfg0.N).val + 1 from rfl, (dats m ρ 0 c).arrAt_succ (1 : Fin 2) (0 : Fin 1)]
  rw [flush0_1 (0 : Fin 1), if_pos rfl]
  exact View.read_write_univ _ _

end Cert.KernelIdeal.Gather

end
-- ==== Proof.KernelIdealValue.lean ====
/-
# What the kernel computes, and the reference

The reference returns its argument. If each device starts with its block of an array, the array gathered from the four
blocks is that array; so at the end of the kernel's run every device's result array is the whole of it.
-/
module

public import proofs.«01_k».proof.Proof.KernelIdealRun
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.KernelIdeal.Gather

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The array gathered from the blocks of an array is the array. -/
theorem gathOf_blocks (w : S8192x512.Idx → Elt F .f32) :
    gathOf (fun c : Dev nD => Layout.block ⟨2, ![2048, 512]⟩ ⟨2, ![8192, 512]⟩ 0 4 c w) = w := by
  funext y
  unfold gathOf
  refine congrArg w (funext fun a => ?_)
  have hy : (y 0).val / 2048 * 2048 + (y 0).val % 2048 = (y 0).val := by omega
  match a with
  | ⟨0, _⟩ => exact Fin.ext hy
  | ⟨1, _⟩ => rfl

/-- What a device starts with being its block of `w`, what is gathered is `w`. -/
theorem gath_eq (w : S8192x512.Idx → Elt F .f32)
    (h : ∀ c : Dev nD, m ((c.tc : Thread nD τ).loc main_arg0) = Layout.block ⟨2, ![2048, 512]⟩ ⟨2, ![8192, 512]⟩ 0 4 c w) :
    gath m ρ = w := by
  unfold gath
  rw [show xstg m ρ = fun c : Dev nD => Layout.block ⟨2, ![2048, 512]⟩ ⟨2, ![8192, 512]⟩ 0 4 c w from
    funext fun c => (xstg_eq m ρ c).trans (h c)]
  exact gathOf_blocks w

/-- The kernels terminate, their arguments unchanged and every semaphore counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- If each device starts with its block of `w`, each of them ends with the whole of `w`, its block unchanged. -/
theorem run_value (w : S8192x512.Idx → Elt F .f32)
    (h : ∀ c : Dev nD, m ((c.tc : Thread nD τ).loc main_arg0) = Layout.block ⟨2, ![2048, 512]⟩ ⟨2, ![8192, 512]⟩ 0 4 c w) :
    θ_run defs (onTc (τ := τ) (main (F := F))) ⟨m, fun _ => 0, ρ⟩ (fun r => ∀ c : Dev nD,
      r.2.mem ((c.tc : Thread nD τ).loc main_v1) = w
        ∧ r.2.mem ((c.tc : Thread nD τ).loc main_arg0) = m ((c.tc : Thread nD τ).loc main_arg0)) :=
  (θ_run defs _ _).mono (fun _ hr c => ⟨((hr.1 c (1 : Fin 2)).trans (finalA_o m ρ c)).trans (gath_eq m ρ w h),
    (hr.1 c (0 : Fin 2)).trans (finalA_x m ρ c)⟩) (run_main m ρ)

end Cert.KernelIdeal.Gather

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

theorem scopedRefs_none : (Finset.univ.filter fun b : Ref sig .tc => b.isScoped) = ∅ := by decide
theorem scopedSems_none : (Finset.univ.filter fun sm : SemLoc sig => sm.isScoped .tc) = ∅ := by decide

/-- The reference, which has no operation, ends with its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq scopedRefs_none scopedSems_none defs main (fun _ => []) (fun _ => rfl) (fun _ => trivial) m ρ)

/-- It has no semaphore, so every counter is at zero. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨h, sem_eq_zero_of_no_sems (by decide) r.2⟩) (run_main m ρ)

end Cert.ReferenceIdeal.Whole

end
-- ==== Proof.Same.lean ====
/-
# The two readings of the kernel are one program

`Kernel` is read at machine words and `KernelIdeal` at ideal numbers, and the two print the same text. Everything proved
of `KernelIdeal`'s program is proved for any float values, so it holds of `Kernel`'s as soon as the two programs and
their body tables are seen to be equal.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The kernels' bodies. -/
theorem body_eq : Cert.Kernel.cc0_body (F := F) = Cert.KernelIdeal.cc0_body (F := F) := rfl

/-- The kernels' body tables: one label, whose body is that one. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The programs' body tables. -/
theorem defs_eq : Cert.Kernel.defs (F := F) = Cert.KernelIdeal.defs (F := F) :=
  congrArg (Pipeline.defs (Cert.KernelIdeal.pcfgs (F := F))) defs₀_eq

/-- The programs. -/
theorem main_eq : Cert.Kernel.main (F := F) = Cert.KernelIdeal.main (F := F) := rfl

end Cert.Same

end
-- ==== Proof.lean ====
/-
# The claims about the all-gather

The kernel gathers an array of 8192 rows, of which each of four devices holds 2048, so that every device ends with the
whole: a block travels around the ring in eight bands of 256 rows, the first four of them one way and the others the
other way. The modules under Proof/ prove, for any float values, how its run ends; here the claims are read off.

* `KernelIdealBands`: the ring, the transfers, the bands they move, and the contents a transfer leaves.
* `KernelIdealCells`: the semaphores, who pays to each and what is handed over with the payment; what a device owes.
* `KernelIdealSteps`, `KernelIdealParts`: what a device holds at each point of the body, one step at a time, and the body.
* `KernelIdealEnds`, `KernelIdealRun`: into the body and out of it, the launch, and the run.
* `KernelIdealValue`: the gathered array against the reference's.
* `Same`: the kernel read at machine words is the same program.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelIdealValue
public import proofs.«01_k».proof.Proof.Same
public import Idealize.ShloMosaic.Adequacy
public import Idealize.ShloMosaic.Init

@[expose] public section

noncomputable section

namespace Cert.Proof

open Idealize.ShloMosaic Idealize.SL.Sem

/-- The kernel at machine words terminates, leaves its arguments and ends with every counter at zero: it is the program
    `KernelIdeal`, whose run is known for any float values. -/
theorem kernel_frame : Cert.quiescent_Kernel := by
  intro m g _
  rw [Cert.Same.defs_eq, Cert.Same.main_eq]
  exact Cert.KernelIdeal.Gather.run_frame (F := Bits) m g

/-- So does the kernel at ideal numbers; -/
theorem kernelIdeal_frame : Cert.quiescent_KernelIdeal := fun m g _ => Cert.KernelIdeal.Gather.run_frame (F := Ideal) m g

/-- and the reference. -/
theorem referenceIdeal_frame : Cert.quiescent_ReferenceIdeal := fun m g _ => Cert.ReferenceIdeal.Whole.run_frame (F := Ideal) m g

/-- Started with the blocks of the reference's argument, every device ends with the reference's result. -/
theorem same_result : Cert.algebraic_KernelIdeal_ReferenceIdeal := fun m g m' g' _ h =>
  ⟨_, Cert.KernelIdeal.Gather.run_value (F := Ideal) m g _ h,
    (θ_run Cert.ReferenceIdeal.defs _ _).mono (fun _ hr => ⟨hr 0, hr 0⟩) (Cert.ReferenceIdeal.Whole.run_main (F := Ideal) m' g')⟩

/-- All the claims. -/
theorem claim : Cert.Claim := ⟨Cert.Kernel.Gen.facts, Cert.KernelIdeal.Gen.facts, Cert.ReferenceIdeal.Gen.facts,
  kernel_frame, kernelIdeal_frame, referenceIdeal_frame, trivial, same_result⟩

end Cert.Proof

end
